-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S1 : Shape := ⟨1, ![1]⟩
abbrev S2x1024x1024 : Shape := ⟨3, ![2, 1024, 1024]⟩
abbrev S2x1024x2048 : Shape := ⟨3, ![2, 1024, 2048]⟩
abbrev S5 : Shape := ⟨1, ![5]⟩
abbrev S_ : Shape := ⟨0, ![]⟩
abbrev S1x1024x1024 : Shape := ⟨3, ![1, 1024, 1024]⟩
abbrev S1024x1024 : Shape := ⟨2, ![1024, 1024]⟩
abbrev S1x1024x2048 : Shape := ⟨3, ![1, 1024, 2048]⟩

abbrev nBuf : Space → Nat
  | .hbm => 5
  | .vmem => 9
  | .smem => 2
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S1, .f32⟩
  | .hbm, ⟨3, _⟩ => ⟨S1, .f32⟩
  | .hbm, ⟨4, _⟩ => ⟨S1024x2048, .f32⟩
  | .local _ .vmem, ⟨0, _⟩ => ⟨S1024x2048, .f32⟩
  | .local _ .vmem, ⟨1, _⟩ => ⟨S2x1024x1024, .f32⟩
  | .local _ .vmem, ⟨2, _⟩ => ⟨S1024x2048, .f32⟩
  | .local _ .vmem, ⟨3, _⟩ => ⟨S1024x2048, .fp8e4m3⟩
  | .local _ .vmem, ⟨4, _⟩ => ⟨S2x1024x1024, .fp8e4m3⟩
  | .local _ .vmem, ⟨5, _⟩ => ⟨S1024x2048, .fp8e4m3⟩
  | .local _ .vmem, ⟨6, _⟩ => ⟨S2x1024x1024, .fp8e4m3⟩
  | .local _ .vmem, ⟨7, _⟩ => ⟨S2x1024x2048, .fp8e4m3⟩
  | .local _ .vmem, ⟨8, _⟩ => ⟨S1024x2048, .fp8e4m3⟩
  | .local _ .smem, ⟨0, _⟩ => ⟨S1, .f32⟩
  | .local _ .smem, ⟨1, _⟩ => ⟨S1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg2_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) (c1_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c1024_i32 : BitVec 32 := 1024#32
  let v12 : BitVec 32 := Scalar.muli v7 c1024_i32
  let c0_i32_10 : BitVec 32 := 0#32
  ![v12.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1024_i32_11 : BitVec 32 := 1024#32
  let v18 : BitVec 32 := Scalar.muli v5 c1024_i32_11
  let c0_i32_16 : BitVec 32 := 0#32
  ![v18.toNat, 0]
def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v25 : BitVec 32 := Scalar.addi v2 c1_i32_17
  let c4_i32_18 : BitVec 32 := 4#32
  let v26 : BitVec 32 := Scalar.remsi v25 c4_i32_18
  let c1_i32_20 : BitVec 32 := 1#32
  let v27 : BitVec 32 := Scalar.muli v26 c1_i32_20
  let v28 : BitVec 32 := Scalar.addi c0_i32_21 v27
  v28.toNat
def k0_dev2 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_22 : BitVec 32 := 2#32
  let v29 : BitVec 32 := Scalar.addi v2 c2_i32_22
  let c4_i32_23 : BitVec 32 := 4#32
  let v30 : BitVec 32 := Scalar.remsi v29 c4_i32_23
  let c1_i32_25 : BitVec 32 := 1#32
  let v31 : BitVec 32 := Scalar.muli v30 c1_i32_25
  let v32 : BitVec 32 := Scalar.addi c0_i32_26 v31
  v32.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v33 : BitVec 32 := Scalar.addi v2 c3_i32
  let c4_i32_27 : BitVec 32 := 4#32
  let v34 : BitVec 32 := Scalar.remsi v33 c4_i32_27
  let c1_i32_29 : BitVec 32 := 1#32
  let v35 : BitVec 32 := Scalar.muli v34 c1_i32_29
  let v36 : BitVec 32 := Scalar.addi c0_i32_30 v35
  v36.toNat
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_46 : BitVec 32 := 1#32
  let v48 : BitVec 32 := Scalar.muli v7 c1_i32_46
  let v49 : BitVec 32 := Scalar.addi c0_i32_47 v48
  v49.toNat
def k0_dev5 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_66 : BitVec 32 := 1#32
  let v69 : BitVec 32 := Scalar.muli v5 c1_i32_66
  let v70 : BitVec 32 := Scalar.addi c0_i32_67 v69
  v70.toNat
def k0_dev6 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_80 : BitVec 32 := 1#32
  let v86 : BitVec 32 := Scalar.muli v7 c1_i32_80
  let v87 : BitVec 32 := Scalar.addi c0_i32_81 v86
  v87.toNat
def k0_dev7 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_87 : BitVec 32 := 1#32
  let v94 : BitVec 32 := Scalar.muli v5 c1_i32_87
  let v95 : BitVec 32 := Scalar.addi c0_i32_88 v94
  v95.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_97 : BitVec 32 := 1024#32
  let v108 : BitVec 32 := Scalar.muli v2 c1024_i32_97
  let c0_i32_102 : BitVec 32 := 0#32
  ![v108.toNat, 0]
def k0_dev8 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_117 : BitVec 32 := 1#32
  let v129 : BitVec 32 := Scalar.muli v9 c1_i32_117
  let v130 : BitVec 32 := Scalar.addi c0_i32_118 v129
  v130.toNat
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Cells.lean ====
/- THE PROTOCOL'S PLACES. The four devices stand in a ring. This file names the ring's neighbours, the buffers
   and slots the kernel's transfers read and write, the semaphores they count on, and what each transfer carries,
   all at a symbolic device `c`. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic
public import Idealize.ShloMosaic.Lib.MemrefSat

@[expose] public section

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring of four devices -/

set_option backward.proofsInPublic true in
/-- The device one step up the ring, -/
def nxt (c : Dev nD) : Dev nD := ⟨(c.val + 1) % 4, Nat.mod_lt _ (by decide)⟩
set_option backward.proofsInPublic true in
/-- one step down, -/
def prv (c : Dev nD) : Dev nD := ⟨(c.val + 3) % 4, Nat.mod_lt _ (by decide)⟩
set_option backward.proofsInPublic true in
/-- and the device opposite. -/
def opp (c : Dev nD) : Dev nD := ⟨(c.val + 2) % 4, Nat.mod_lt _ (by decide)⟩

theorem prv_nxt (c : Dev nD) : prv (nxt c) = c := by revert c; decide
theorem nxt_prv (c : Dev nD) : nxt (prv c) = c := by revert c; decide
theorem opp_opp (c : Dev nD) : opp (opp c) = c := by revert c; decide

/-! The device numbers the kernel computes name these neighbours: its three signals, then its five transfers. -/

theorem dev1_eq (c : Dev nD) : (⟨k0_dev1 c, k0_dev1_lt c⟩ : Dev nD) = nxt c := Fin.ext (k0_dev1_eq c)
theorem dev2_eq (c : Dev nD) : (⟨k0_dev2 c, k0_dev2_lt c⟩ : Dev nD) = opp c := Fin.ext (k0_dev2_eq c)
theorem dev3_eq (c : Dev nD) : (⟨k0_dev3 c, k0_dev3_lt c⟩ : Dev nD) = prv c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = prv c := Fin.ext (k0_dev5_eq c)
theorem dev6_eq (c : Dev nD) : (⟨k0_dev6 c, k0_dev6_lt c⟩ : Dev nD) = nxt c := Fin.ext (k0_dev6_eq c)
theorem dev7_eq (c : Dev nD) : (⟨k0_dev7 c, k0_dev7_lt c⟩ : Dev nD) = prv c := Fin.ext (k0_dev7_eq c)
theorem dev8_eq (c : Dev nD) : (⟨k0_dev8 c, k0_dev8_lt c⟩ : Dev nD) = opp c := Fin.ext (k0_dev8_eq c)

/-! ## The buffers and their slots -/

abbrev xM : Memref sig .tc .hbm S4096x1024 .f32 := Memref.whole main_arg0
abbrev wM : Memref sig .tc .hbm S1024x2048 .f32 := Memref.whole main_arg1

/-- The rows of the device's `x` that belong to the next device's block of the result, -/
abbrev xNxt (c : Dev nD) : Memref sig .tc .hbm S1024x1024 .f32 :=
  xM.slice (Rect.unit (s := S4096x1024) (k0_off1 c 1#32) S1024x1024.size (k0_off1_inb c 0)) (fun _ => rfl)
/-- to the previous device's, -/
abbrev xPrv (c : Dev nD) : Memref sig .tc .hbm S1024x1024 .f32 :=
  xM.slice (Rect.unit (s := S4096x1024) (k0_off2 c) S1024x1024.size (k0_off2_inb c)) (fun _ => rfl)
/-- to the opposite device's, -/
abbrev xOpp (c : Dev nD) : Memref sig .tc .hbm S1024x1024 .f32 :=
  xM.slice (Rect.unit (s := S4096x1024) (k0_off1 c 2#32) S1024x1024.size (k0_off1_inb c 1)) (fun _ => rfl)
/-- and to its own. -/
abbrev xOwn (c : Dev nD) : Memref sig .tc .hbm S1024x1024 .f32 :=
  xM.slice (Rect.unit (s := S4096x1024) (k0_off3 c) S1024x1024.size (k0_off3_inb c)) (fun _ => rfl)

/-- The two halves of a stack of two `1024 × 1024` blocks, -/
abbrev rx0 : Rect S2x1024x1024 := Rect.unit (s := S2x1024x1024) ![0, 0, 0] S1x1024x1024.size inb_S2x1024x1024_S1x1024x1024_0_0_0
abbrev rx1 : Rect S2x1024x1024 := Rect.unit (s := S2x1024x1024) ![1, 0, 0] S1x1024x1024.size inb_S2x1024x1024_S1x1024x1024_1_0_0
/-- and of two `1024 × 2048` ones. -/
abbrev rw0 : Rect S2x1024x2048 := Rect.unit (s := S2x1024x2048) ![0, 0, 0] S1x1024x2048.size inb_S2x1024x2048_S1x1024x2048_0_0_0
abbrev rw1 : Rect S2x1024x2048 := Rect.unit (s := S2x1024x2048) ![1, 0, 0] S1x1024x2048.size inb_S2x1024x2048_S1x1024x2048_1_0_0

section Slots
variable {e : EltTy}
abbrev slotX0 (M : Memref sig .tc .vmem S2x1024x1024 e) : Memref sig .tc .vmem S1024x1024 e :=
  (M.slice rx0 (fun _ => rfl)).squeeze S1024x1024 squeezes_S1x1024x1024_S1024x1024
abbrev slotX1 (M : Memref sig .tc .vmem S2x1024x1024 e) : Memref sig .tc .vmem S1024x1024 e :=
  (M.slice rx1 (fun _ => rfl)).squeeze S1024x1024 squeezes_S1x1024x1024_S1024x1024
abbrev slotW0 (M : Memref sig .tc .vmem S2x1024x2048 e) : Memref sig .tc .vmem S1024x2048 e :=
  (M.slice rw0 (fun _ => rfl)).squeeze S1024x2048 squeezes_S1x1024x2048_S1024x2048
abbrev slotW1 (M : Memref sig .tc .vmem S2x1024x2048 e) : Memref sig .tc .vmem S1024x2048 e :=
  (M.slice rw1 (fun _ => rfl)).squeeze S1024x2048 squeezes_S1x1024x2048_S1024x2048
end Slots

/-- Where blocks of `x` arrive from memory (two slots), where `w` arrives, -/
abbrev xinM : Memref sig .tc .vmem S2x1024x1024 .f32 := Memref.whole cc0_scratch0
abbrev winM : Memref sig .tc .vmem S1024x2048 .f32 := Memref.whole cc0_scratch1
/-- what is sent: the rounded `w`, the two rounded blocks of `x`, the rounded partial product, -/
abbrev wsM : Memref sig .tc .vmem S1024x2048 .fp8e4m3 := Memref.whole cc0_scratch2
abbrev xsM : Memref sig .tc .vmem S2x1024x1024 .fp8e4m3 := Memref.whole cc0_scratch3
abbrev psM : Memref sig .tc .vmem S1024x2048 .fp8e4m3 := Memref.whole cc0_scratch4
/-- and what is received: two blocks of `x`, two of `w`, one partial product. -/
abbrev xrM : Memref sig .tc .vmem S2x1024x1024 .fp8e4m3 := Memref.whole cc0_scratch5
abbrev wrM : Memref sig .tc .vmem S2x1024x2048 .fp8e4m3 := Memref.whole cc0_scratch6
abbrev prM : Memref sig .tc .vmem S1024x2048 .fp8e4m3 := Memref.whole cc0_scratch7

abbrev sxM : Memref sig .tc .smem S1 .f32 := Memref.whole cc0_stg0_0
abbrev swM : Memref sig .tc .smem S1 .f32 := Memref.whole cc0_stg1_0
abbrev oM : Memref sig .tc .vmem S1024x2048 .f32 := Memref.whole cc0_stg2_0

/-! ## The semaphores -/

/-- One semaphore of an array of five. -/
abbrev sem0 (a : DmaSems sig S5) : DmaSem sig := ((a.slice (Rect.unit (s := S5) ![0] S1.size inb_S5_S1_0)).squeeze S_ squeezes_S1_S_).sem
abbrev sem1 (a : DmaSems sig S5) : DmaSem sig := ((a.slice (Rect.unit (s := S5) ![1] S1.size inb_S5_S1_1)).squeeze S_ squeezes_S1_S_).sem
abbrev sem2 (a : DmaSems sig S5) : DmaSem sig := ((a.slice (Rect.unit (s := S5) ![2] S1.size inb_S5_S1_2)).squeeze S_ squeezes_S1_S_).sem
abbrev sem3 (a : DmaSems sig S5) : DmaSem sig := ((a.slice (Rect.unit (s := S5) ![3] S1.size inb_S5_S1_3)).squeeze S_ squeezes_S1_S_).sem
abbrev sem4 (a : DmaSems sig S5) : DmaSem sig := ((a.slice (Rect.unit (s := S5) ![4] S1.size inb_S5_S1_4)).squeeze S_ squeezes_S1_S_).sem

abbrev localS : DmaSems sig S5 := cc0_scratch8
abbrev sendS : DmaSems sig S5 := cc0_scratch9
abbrev recvS : DmaSems sig S5 := cc0_scratch10
/-- The barrier semaphore the devices shake hands on before anything is sent. -/
abbrev barS : Sem sig := (SemArray.scalar (sig.barrier 0 rfl) : Sems sig S_).sem

/-- The five transfers between devices, in the order they start: block of `x` up the ring (0) and down the ring (1), `w`
    up (2) and down (3), the partial product across (4). Each completes on one of the receiver's semaphores, -/
abbrev recvSem : Fin 5 → DmaSem sig
  | 0 => sem0 recvS | 1 => sem1 recvS | 2 => sem2 recvS | 3 => sem3 recvS | 4 => sem4 recvS
/-- and releases its source on one of the sender's. -/
abbrev sendSem : Fin 5 → DmaSem sig
  | 0 => sem0 sendS | 1 => sem2 sendS | 2 => sem1 sendS | 3 => sem3 sendS | 4 => sem4 sendS

/-- Whom device `c` sends transfer `j` to, -/
def dst : Fin 5 → Dev nD → Dev nD
  | 0 => nxt | 1 => prv | 2 => nxt | 3 => prv | 4 => opp
/-- and whom it receives it from. -/
def frm : Fin 5 → Dev nD → Dev nD
  | 0 => prv | 1 => nxt | 2 => prv | 3 => nxt | 4 => opp

theorem frm_dst (j : Fin 5) (c : Dev nD) : frm j (dst j c) = c := by
  fin_cases j
  · exact prv_nxt c
  · exact nxt_prv c
  · exact prv_nxt c
  · exact nxt_prv c
  · exact opp_opp c
theorem dst_frm (j : Fin 5) (c : Dev nD) : dst j (frm j c) = c := by
  fin_cases j
  · exact nxt_prv c
  · exact prv_nxt c
  · exact nxt_prv c
  · exact prv_nxt c
  · exact opp_opp c

/-- Whom the three signals go to. -/
def sigTo : Fin 3 → Dev nD → Dev nD
  | 0 => nxt | 1 => opp | 2 => prv
/-- Whom they come from. -/
def sigFrm : Fin 3 → Dev nD → Dev nD
  | 0 => prv | 1 => opp | 2 => nxt

theorem sigFrm_sigTo (k : Fin 3) (c : Dev nD) : sigFrm k (sigTo k c) = c := by
  fin_cases k
  · exact prv_nxt c
  · exact opp_opp c
  · exact nxt_prv c
theorem sigTo_sigFrm (k : Fin 3) (c : Dev nD) : sigTo k (sigFrm k c) = c := by
  fin_cases k
  · exact nxt_prv c
  · exact opp_opp c
  · exact prv_nxt c

/-- The credit of a received block of `x`, and of one as large as `w`. -/
abbrev NX : ℕ := (slotX0 xrM).view.dmaCredit
abbrev NW : ℕ := prM.view.dmaCredit
theorem NX_pos : 0 < NX := View.dmaCredit_pos _ (by decide)
theorem NW_pos : 0 < NW := View.dmaCredit_pos _ (by decide)

/-- The credit of transfer `j`. -/
def N : Fin 5 → ℕ
  | 0 => NX | 1 => NX | 2 => NW | 3 => NW | 4 => NW
theorem N_pos (j : Fin 5) : 0 < N j := by
  fin_cases j
  · exact NX_pos
  · exact NX_pos
  · exact NW_pos
  · exact NW_pos
  · exact NW_pos

/-! ## What the transfers carry -/

variable (m : (ℓ : Loc nD τ sig) → Buf (Elt F) ℓ)

/-- Device `c`'s `x` and `w` at launch. -/
def xAt (c : Dev nD) : (main_arg0 : Ref sig .tc).ty.Contents (Elt F) := m ((c : Thread nD τ).loc main_arg0)
def wAt (c : Dev nD) : (main_arg1 : Ref sig .tc).ty.Contents (Elt F) := m ((c : Thread nD τ).loc main_arg1)

/-- Its four blocks of rows. -/
def xNxtAt (c : Dev nD) : Vec F S1024x1024 .f32 := (xNxt c).view.read (Elt F) (xAt m c)
def xPrvAt (c : Dev nD) : Vec F S1024x1024 .f32 := (xPrv c).view.read (Elt F) (xAt m c)
def xOppAt (c : Dev nD) : Vec F S1024x1024 .f32 := (xOpp c).view.read (Elt F) (xAt m c)
def xOwnAt (c : Dev nD) : Vec F S1024x1024 .f32 := (xOwn c).view.read (Elt F) (xAt m c)

section Shapes
variable {α : Type}
/-- A block as one member of a stack, and back. -/
abbrev upX (X : S1024x1024.Idx → α) : S1x1024x1024.Idx → α := shapeCast S1x1024x1024 X shapeCasts_S1024x1024_S1x1024x1024
abbrev dnX (X : S1x1024x1024.Idx → α) : S1024x1024.Idx → α := shapeCast S1024x1024 X shapeCasts_S1x1024x1024_S1024x1024
abbrev dnW (X : S1x1024x2048.Idx → α) : S1024x2048.Idx → α := shapeCast S1024x2048 X shapeCasts_S1x1024x2048_S1024x2048
theorem castsW : S1024x2048.ShapeCasts S1x1024x2048 := by decide
abbrev upW (X : S1024x2048.Idx → α) : S1x1024x2048.Idx → α := shapeCast S1x1024x2048 X castsW
end Shapes

/-- What device `c` sends: up the ring the rounded block of `x` for the next device, down the ring the one for the
    previous, both ways its rounded `w`, across the rounded product of the opposite device's rows with its `w`. -/
def sentX0 (c : Dev nD) : Vec F S1024x1024 .fp8e4m3 := dnX (k0_pay1 (upX (xNxtAt m c)))
def sentX1 (c : Dev nD) : Vec F S1024x1024 .fp8e4m3 := dnX (k0_pay2 (upX (xPrvAt m c)))
def sentW (c : Dev nD) : Vec F S1024x2048 .fp8e4m3 := k0_pay3 (wAt m c)
def sentP (c : Dev nD) : Vec F S1024x2048 .fp8e4m3 := k0_pay5 (wAt m c) (upX (xOppAt m c))

/-- The scales as the kernel reads them. -/
def sxAt (c : Dev nD) : (cc0_stg0_0 : Ref sig .tc).ty.Contents (Elt F) :=
  (win0_0.blk (0 : Fin 1)).view.read (Elt F) (m ((c : Thread nD τ).loc main_arg2))
def swAt (c : Dev nD) : (cc0_stg1_0 : Ref sig .tc).ty.Contents (Elt F) :=
  (win0_1.blk (0 : Fin 1)).view.read (Elt F) (m ((c : Thread nD τ).loc main_arg3))
abbrev rs : Rect S1 := Rect.unit (s := S1) ![0] S1.size inb_S1_S1_0
def sxEl (c : Dev nD) : Elt F .f32 := (sxM.access rs).read (Elt F) (sxAt m c) (Shape.Idx.first (s := rs.shape) (numel1_S1.symm ▸ Nat.one_pos))
def swEl (c : Dev nD) : Elt F .f32 := (swM.access rs).read (Elt F) (swAt m c) (Shape.Idx.first (s := rs.shape) (numel1_S1.symm ▸ Nat.one_pos))

/-- The accumulator after device `c`'s own product and the one from the previous device's blocks, -/
def acc1 (c : Dev nD) : FVec F S1024x2048 .f32 :=
  k0_pay6 (k0_pay4 (wAt m c)) (upX (xOwnAt m c)) (upX (sentX0 m (prv c))) (upW (sentW m (prv c)))
/-- after the one from the next device's blocks, -/
def acc2 (c : Dev nD) : FVec F S1024x2048 .f32 :=
  k0_pay7 (acc1 m c) (upX (sentX1 m (nxt c))) (upW (sentW m (nxt c)))
/-- and the result: the opposite device's partial product added, scaled, and clipped below at zero. -/
def outAt (c : Dev nD) : FVec F S1024x2048 .f32 := k0_pay8 (acc2 m c) (sentP m (opp c)) (sxEl m c) (swEl m c)

end Cert.Scatter

end
-- ==== Proof.Protocol.lean ====
/- THE PROTOCOL. Each device has eleven semaphores the devices share: one barrier, five on which transfers land, five
   that release the sources of its own transfers. Every one runs a single round. This file states who pays each round
   and what it hands over (the schedule), what a device owes at the start, and the levels that order the waits. -/
module

public import proofs.«01_k».proof.Proof.Cells

@[expose] public section

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's own, the rounds of the shared semaphores (whose duties are numbered by `Fin 3`), and
    the counters of the copies that stay on the device. -/
abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

/-! ## The shared semaphores -/

inductive Cell where
  | bar
  | recv (j : Fin 5)
  | send (j : Fin 5)
deriving DecidableEq

abbrev csem : Cell → SemLoc sig
  | .bar => .reg barS
  | .recv j => .dma (recvSem j)
  | .send j => .dma (sendSem j)

abbrev cell (c : Dev nD) (k : Cell) : GSem nD τ sig := ((c : Thread nD τ), csem k)

def allCells : List Cell :=
  [.bar, .recv 0, .recv 1, .recv 2, .recv 3, .recv 4, .send 0, .send 1, .send 2, .send 3, .send 4]

/-- Which shared semaphore a semaphore is, if any. -/
def kindOf (sm : SemLoc sig) : Option Cell := allCells.find? fun k => decide (csem k = sm)

theorem mem_allCells (k : Cell) : k ∈ allCells := by
  rcases k with _ | j | j
  · decide
  · revert j; decide
  · revert j; decide
instance : Fintype Cell := ⟨⟨(allCells : Multiset Cell), by decide⟩, mem_allCells⟩

theorem kindOf_csem : ∀ k : Cell, kindOf (csem k) = some k := by decide

theorem csem_inj {k l : Cell} (h : csem k = csem l) : k = l := by
  have := congrArg kindOf h
  rw [kindOf_csem, kindOf_csem] at this
  exact Option.some.inj this

theorem cell_inj {c d : Dev nD} {k l : Cell} (h : cell c k = cell d l) : c = d ∧ k = l :=
  ⟨congrArg (fun g : GSem nD τ sig => g.1.1) h, csem_inj (congrArg Prod.snd h)⟩

theorem cell_eq_iff {c d : Dev nD} {k l : Cell} : cell c k = cell d l ↔ c = d ∧ k = l :=
  ⟨cell_inj, fun ⟨h, h'⟩ => by rw [h, h']⟩

variable (m : (ℓ : Loc nD τ sig) → Buf (Elt F) ℓ)

/-! ## What each round hands over -/

/-- A buffer or slot in device `c`'s hands with contents `X`, -/
abbrev has (c : Dev nD) {sp : Space} {s : Shape} {e : EltTy} (M : Memref sig .tc sp s e) (X : s.Idx → Elt F e) : sProp 𝕄 :=
  owns (Ix := Unit) (Name := ℕ) (U := UU) (Lvl := ℕ) (c : Thread nD τ) M fullShare X
/-- with a half share of it, -/
abbrev hasL (c : Dev nD) {sp : Space} {s : Shape} {e : EltTy} (M : Memref sig .tc sp s e) (X : s.Idx → Elt F e) : sProp 𝕄 :=
  owns (Ix := Unit) (Name := ℕ) (U := UU) (Lvl := ℕ) (c : Thread nD τ) M fullShare.left X
abbrev hasR (c : Dev nD) {sp : Space} {s : Shape} {e : EltTy} (M : Memref sig .tc sp s e) (X : s.Idx → Elt F e) : sProp 𝕄 :=
  owns (Ix := Unit) (Name := ℕ) (U := UU) (Lvl := ℕ) (c : Thread nD τ) M fullShare.right X
/-- with some contents. -/
abbrev free (c : Dev nD) {sp : Space} {s : Shape} {e : EltTy} (M : Memref sig .tc sp s e) : sProp 𝕄 :=
  iprop(∃ X : s.Idx → Elt F e, has c M X)

/-- A transfer hands its receiver the place it lands on, holding what was sent. -/
def recvPay (j : Fin 5) (c : Dev nD) : sProp 𝕄 := match j with
  | 0 => has c (slotX0 xrM) (sentX0 m (prv c))
  | 1 => has c (slotX1 xrM) (sentX1 m (nxt c))
  | 2 => has c (slotW0 wrM) (sentW m (prv c))
  | 3 => has c (slotW1 wrM) (sentW m (nxt c))
  | 4 => has c prM (sentP m (opp c))

/-- It gives its sender the source back: the rounded `w` goes out twice at once, each time with half a share. -/
def sendPay (j : Fin 5) (c : Dev nD) : sProp 𝕄 := match j with
  | 0 => has c (slotX0 xsM) (sentX0 m c)
  | 1 => has c (slotX1 xsM) (sentX1 m c)
  | 2 => hasL c wsM (sentW m c)
  | 3 => hasR c wsM (sentW m c)
  | 4 => has c psM (sentP m c)

/-- A signal hands over the places on the signaller's side that the signalled device will send to. -/
def barPay (d : Fin 3) (c : Dev nD) : sProp (MT nD τ sig Unit (Elt F) ℕ UU ℕ) := match d with
  | 0 => iprop(free (prv c) (slotX1 xrM) ∗ free (prv c) (slotW1 wrM))
  | 1 => free (opp c) prM
  | 2 => iprop(free (nxt c) (slotX0 xrM) ∗ free (nxt c) (slotW0 wrM))

omit [FloatOps F] in
instance barPay_storable (d : Fin 3) (c : Dev nD) : BI.Storable (upEmb : UEmb _ 𝕄) (barPay (F := F) d c) := by
  unfold barPay; split <;> infer_instance
instance recvPay_storable (j : Fin 5) (c : Dev nD) : BI.Storable (upEmb : UEmb _ 𝕄) (recvPay m j c) := by
  unfold recvPay; split <;> infer_instance
instance sendPay_storable (j : Fin 5) (c : Dev nD) : BI.Storable (upEmb : UEmb _ 𝕄) (sendPay m j c) := by
  unfold sendPay; split <;> infer_instance

/-- The duties of the one round of a shared semaphore: three signals for the barrier, one transfer for the others, -/
def dutiesOf : Option Cell → Finset (Fin 3)
  | some .bar => Finset.univ
  | some (.recv _) => {0}
  | some (.send _) => {0}
  | none => ∅
/-- the units each pays, -/
def unitsOf : Option Cell → ℕ
  | some (.recv j) => N j
  | some (.send j) => N j
  | _ => 1
/-- and what it hands over. -/
def payOf (k : Option Cell) (c : Dev nD) (d : Fin 3) : sProp 𝕄 := match k with
  | some .bar => barPay d c
  | some (.recv j) => recvPay m j c
  | some (.send j) => sendPay m j c
  | none => iprop(emp)

theorem unitsOf_pos (k : Option Cell) : 0 < unitsOf k := by
  unfold unitsOf; split
  · exact N_pos _
  · exact N_pos _
  · exact Nat.one_pos

def sched : Rounds.Schedule (GSem nD τ sig) (Fin 3) 𝕄 where
  duties g r := if r = 0 ∧ g.1.2 = .tc then dutiesOf (kindOf g.2) else ∅
  unitless _ := False
  amount g _ _ := unitsOf (kindOf g.2)
  payload g _ d := payOf m (kindOf g.2) g.1.1 d
  amount_pos g _ _ _ := unitsOf_pos _

instance sched_payload_storable (g : GSem nD τ sig) (r : ℕ) (d : Fin 3) : BI.Storable (upEmb : UEmb _ 𝕄) ((sched m).payload g r d) := by
  show BI.Storable upEmb (payOf m (kindOf g.2) g.1.1 d)
  unfold payOf; split <;> infer_instance

section Sched
variable (c : Dev nD) (k : Cell)

theorem duties_cell : (sched m).duties (cell c k) 0 = dutiesOf (some k) := by
  show (if 0 = 0 ∧ (Dev.tc c : Thread nD τ).2 = .tc then dutiesOf (kindOf (csem k)) else ∅) = _
  rw [if_pos ⟨rfl, rfl⟩, kindOf_csem]
theorem duties_later (g : GSem nD τ sig) : ∀ r, 1 ≤ r → (sched m).duties g r = ∅ :=
  fun r hr => if_neg fun h => by have := h.1; omega
theorem amount_cell (d : Fin 3) : (sched m).amount (cell c k) 0 d = unitsOf (some k) := by
  show unitsOf (kindOf (csem k)) = _; rw [kindOf_csem]
theorem payload_cell (d : Fin 3) : (sched m).payload (cell c k) 0 d = payOf m (some k) c d := by
  show payOf m (kindOf (csem k)) c d = _; rw [kindOf_csem]

theorem expect_bar : (sched m).expect (cell c .bar) 0 = 3 := by
  unfold Schedule.expect Schedule.amountOf
  rw [duties_cell, Finset.sum_congr rfl fun d _ => amount_cell m c .bar d]; rfl
theorem expect_recv (j : Fin 5) : (sched m).expect (cell c (.recv j)) 0 = N j := by
  unfold Schedule.expect Schedule.amountOf
  rw [duties_cell]; show ∑ d ∈ ({0} : Finset (Fin 3)), _ = _
  rw [Finset.sum_singleton, amount_cell]; rfl
theorem expect_send (j : Fin 5) : (sched m).expect (cell c (.send j)) 0 = N j := by
  unfold Schedule.expect Schedule.amountOf
  rw [duties_cell]; show ∑ d ∈ ({0} : Finset (Fin 3)), _ = _
  rw [Finset.sum_singleton, amount_cell]; rfl

theorem rest_bar : bigSep ((sched m).duties (cell c .bar) 0 \ ∅) (fun d => (sched m).payload (cell c .bar) 0 d)
    = iprop(barPay 0 c ∗ barPay 1 c ∗ barPay 2 c) := by
  rw [Finset.sdiff_empty, duties_cell]
  show bigSep Finset.univ _ = _
  rw [bigSep_univ_eq_bigSepL [0, 1, 2] (by decide) (by decide), bigSepL_cons_cons, bigSepL_cons_cons, bigSepL_singleton, payload_cell, payload_cell, payload_cell]
  rfl
theorem rest_recv (j : Fin 5) : bigSep ((sched m).duties (cell c (.recv j)) 0 \ ∅) (fun d => (sched m).payload (cell c (.recv j)) 0 d) = recvPay m j c := by
  rw [Finset.sdiff_empty, duties_cell]
  show bigSep {0} _ = _
  rw [bigSep_singleton, payload_cell]; rfl
theorem rest_send (j : Fin 5) : bigSep ((sched m).duties (cell c (.send j)) 0 \ ∅) (fun d => (sched m).payload (cell c (.send j)) 0 d) = sendPay m j c := by
  rw [Finset.sdiff_empty, duties_cell]
  show bigSep {0} _ = _
  rw [bigSep_singleton, payload_cell]; rfl

end Sched

/-! ## What a device owes -/

/-- A list of payments still to make, the next one first, as a tally. -/
def owing : List (GSem nD τ sig × ℕ) → CellTallies nD τ sig Unit
  | [] => 0
  | p :: l => owing l + tallyAt p.1 () p.2

/-- The transfers, -/
def sendDues (c : Dev nD) : List (GSem nD τ sig × ℕ) :=
  [(cell (nxt c) (.recv 0), N 0), (cell (prv c) (.recv 1), N 1), (cell (nxt c) (.recv 2), N 2), (cell (prv c) (.recv 3), N 3),
   (cell (opp c) (.recv 4), N 4)]
/-- and before them the signals. -/
def dues (c : Dev nD) : List (GSem nD τ sig × ℕ) :=
  (cell (nxt c) .bar, 1) :: (cell (opp c) .bar, 1) :: (cell (prv c) .bar, 1) :: sendDues c

theorem owing_pos {l : List (GSem nD τ sig × ℕ)} {g : GSem nD τ sig} {u : Unit} (h : 0 < owing l g u) : ∃ p ∈ l, p.1 = g := by
  induction l with
  | nil => exact absurd h (Nat.lt_irrefl 0)
  | cons p l ih =>
    by_cases hp : g = p.1
    · exact ⟨p, List.mem_cons_self .., hp.symm⟩
    · have h' : 0 < owing l g u := by
        have : owing (p :: l) g u = owing l g u + tallyAt p.1 () p.2 g u := by
          show (owing l + tallyAt p.1 () p.2) g u = _
          rw [Pi.add_apply, Finsupp.add_apply]
        rw [this, tallyAt_apply, if_neg (fun h => hp h.1)] at h
        exact h
      obtain ⟨q, hq, e⟩ := ih h'
      exact ⟨q, List.mem_cons_of_mem _ hq, e⟩

theorem owing_apply (l : List (GSem nD τ sig × ℕ)) (g : GSem nD τ sig) :
    owing l g () = (l.map fun p => if g = p.1 then p.2 else 0).sum := by
  induction l with
  | nil => rfl
  | cons p l ih =>
    show (owing l + tallyAt p.1 () p.2) g () = _
    rw [Pi.add_apply, Finsupp.add_apply, ih, tallyAt_apply, List.map_cons, List.sum_cons, Nat.add_comm]
    congr 1
    by_cases h : g = p.1
    · rw [if_pos ⟨h, rfl⟩, if_pos h]
    · rw [if_neg (fun h' => h h'.1), if_neg h]

/-! ## The levels -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The barrier is at level 1, the semaphores transfers land on at 2, every other at 0. -/
def levelOf : Option Cell → ℕ
  | some .bar => 1
  | some (.recv _) => 2
  | _ => 0
def lv (g : GSem nD τ sig) (_ : Unit) : ℕ := levelOf (kindOf g.2)

theorem lv_cell (c : Dev nD) (k : Cell) : lv (cell c k) () = levelOf (some k) := by
  show levelOf (kindOf (csem k)) = _; rw [kindOf_csem]

theorem dues_cells (c : Dev nD) : ∀ p ∈ dues c, ∃ d k, p.1 = cell d k ∧ 1 ≤ levelOf (some k) := by
  intro p hp
  simp only [dues, sendDues, List.mem_cons, List.not_mem_nil, or_false] at hp
  rcases hp with h | h | h | h | h | h | h | h <;> subst h <;> exact ⟨_, _, rfl, by decide⟩
theorem sendDues_cells (c : Dev nD) : ∀ p ∈ sendDues c, ∃ d k, p.1 = cell d k ∧ 2 ≤ levelOf (some k) := by
  intro p hp
  simp only [sendDues, List.mem_cons, List.not_mem_nil, or_false] at hp
  rcases hp with h | h | h | h | h <;> subst h <;> exact ⟨_, _, rfl, by decide⟩

/-- A device may wait on a semaphore below everything it still owes. -/
theorem mayWait (c : Dev nD) (sm : SemLoc sig) (b : ℕ) (hb : lv ((c : Thread nD τ), sm) () ≤ b) (l : List (GSem nD τ sig × ℕ))
    (hl : ∀ p ∈ l, ∃ d k, p.1 = cell d k ∧ b + 1 ≤ levelOf (some k)) :
    (levAts L lv : sProp 𝕄) ⊢ MayWait (c : Thread nD τ) sm () (owing l) :=
  MayOwe.of_cut (L := L) (lev := lv) b (fun p hp => by rw [Finset.mem_singleton.mp hp, L_tc]; exact Finset.mem_singleton_self _)
    (fun g u hg => by
      obtain ⟨p, hp, rfl⟩ := owing_pos hg
      obtain ⟨d, k, e, -⟩ := hl p hp
      rw [e, L_tc]; exact Finset.mem_singleton_self _)
    (fun p hp => by rw [Finset.mem_singleton.mp hp]; exact hb)
    (fun g u hg => by
      obtain ⟨p, hp, rfl⟩ := owing_pos hg
      obtain ⟨d, k, e, h⟩ := hl p hp
      rw [e, lv_cell]; exact h)

end Cert.Scatter

end
-- ==== Proof.Steps.lean ====
/- THE STEPS. One lemma per kind of operation the kernel performs, each stated on buffers and slots held at known
   contents: loads and stores, a copy that stays on the device and its wait, a signal, the barrier's wait, a transfer to
   another device, and the waits for its two ends. -/
module

public import proofs.«01_k».proof.Proof.Protocol

@[expose] public section

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- What it takes for device `c` to run `p` to a result satisfying `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Shapes there and back -/

theorem shapeCast_back {α : Type} {s t : Shape} (X : s.Idx → α) (h : s.ShapeCasts t) (h' : t.ShapeCasts s) :
    shapeCast s (shapeCast t X h) h' = X := by
  funext j
  show X (Shape.reshapeEquiv h (Shape.reshapeEquiv h' j)) = X j
  congr 1
  unfold Shape.reshapeEquiv
  simp

/-- Elements held at contents `f` are held at what is read of `f`. -/
theorem owns_at (c : Dev nD) {sp : Space} {s : Shape} {e : EltTy} (M : Memref sig .tc sp s e) {q : PosShare TreeShare} (f : M.view.ty.Contents (Elt F))
    {X : s.Idx → Elt F e} (h : M.view.read (Elt F) f = X) :
    (M.view.loc (c : Thread nD τ) ↦[M.view.set]{q} f : sProp 𝕄) ⊢ owns (c : Thread nD τ) M q X := h ▸ owns_intro (c : Thread nD τ) M q f

theorem owns_open (c : Dev nD) {sp : Space} {s : Shape} {e : EltTy} (M : Memref sig .tc sp s e) {q : PosShare TreeShare} {X : s.Idx → Elt F e} :
    (owns (c : Thread nD τ) M q X : sProp 𝕄)
      ⊢ iprop(∃ f : M.view.ty.Contents (Elt F), ⌜M.view.read (Elt F) f = X⌝ ∗ (M.view.loc (c : Thread nD τ) ↦[M.view.set]{q} f)) := by
  unfold owns; exact BI.Entails.refl _

/-! ## Loads and stores -/

section LoadStore
variable (c : Dev nD) {α : Type} {Q : α → sProp (MT nD τ sig Unit (Elt F) ℕ UU ℕ)} {s s' : Shape} {e : EltTy} {q : PosShare TreeShare}

omit [FloatOps F] in
/-- A slot is read as the member of its stack, its leading axis dropped, and covers the same elements. -/
theorem read_slot (M : Memref sig .tc .vmem s e) (r : Rect s) (hr : ∀ a, r.stride a = 1) (hq : r.shape.Squeezes s') (h1 : r.shape.ShapeCasts s')
    (f : M.view.ty.Contents (Elt F)) :
    ((M.slice r hr).squeeze s' hq).view.read (Elt F) f = shapeCast s' ((M.access r).read (Elt F) f) h1 := rfl
omit [FloatOps F] in
theorem slot_set (M : Memref sig .tc .vmem s e) (r : Rect s) (hr : ∀ a, r.stride a = 1) (hq : r.shape.Squeezes s') :
    ((M.slice r hr).squeeze s' hq).view.set = (M.access r).set := View.set_reshape _ _

/-- Loading, as a member of its stack, a slot that holds `X`. -/
theorem load_slot {M : Memref sig .tc .vmem s e} {r : Rect s} {hr : ∀ a, r.stride a = 1} {hq : r.shape.Squeezes s'}
    {hl : M.view.LoadsAt r.toLoadRect} {k : (r.shape.Idx → Elt F e) → Prog (TpuEff nD τ sig (Elt F) Λ₀ .tc) α} (X : s'.Idx → Elt F e)
    (Y : r.shape.Idx → Elt F e) (h1 : r.shape.ShapeCasts s') (h2 : s'.ShapeCasts r.shape) (hY : shapeCast r.shape X h2 = Y) :
    (owns (c : Thread nD τ) ((M.slice r hr).squeeze s' hq) q X : sProp 𝕄)
      ⊢ iprop((owns (c : Thread nD τ) ((M.slice r hr).squeeze s' hq) q X -∗ runs c (k Y) Q)
        -∗ runs c (.op (.load M r.toLoadRect hl) k) Q) := by
  subst hY
  iintro H Hk
  ihave H := (owns_open c _) $$ H
  icases H with ⟨%f, %hf, H⟩
  have hv : (M.access r).read (Elt F) f = shapeCast r.shape X h2 := by
    rw [← hf, read_slot M r hr hq h1 f, shapeCast_back]
  iapply (wp_load_rect 𝒱₀ (c : Thread nD τ) none Set.univ (m := M) (r := r) (slot_set M r hr hq).ge) $$ H
  iintro H
  rw [hv]
  iapply Hk
  iapply (owns_at c _ f hf) $$ H

/-- Storing one. -/
theorem store_slot {M : Memref sig .tc .vmem s e} {r : Rect s} {hr : ∀ a, r.stride a = 1} {hq : r.shape.Squeezes s'}
    {w : r.shape.Idx → Elt F e} {hx : (M.access r).Stores Finset.univ} {hm : (Finset.univ : Finset r.shape.Idx) = Finset.univ ∨ ∀ a, r.stride a = 1}
    {k : PUnit → Prog (TpuEff nD τ sig (Elt F) Λ₀ .tc) α} (X : s'.Idx → Elt F e) (h1 : r.shape.ShapeCasts s') :
    (owns (c : Thread nD τ) ((M.slice r hr).squeeze s' hq) fullShare X : sProp 𝕄)
      ⊢ iprop((owns (c : Thread nD τ) ((M.slice r hr).squeeze s' hq) fullShare (shapeCast s' w h1) -∗ runs c (k ⟨⟩) Q)
        -∗ runs c (.op (.store M r w Finset.univ hx hm) k) Q) := by
  iintro H Hk
  ihave H := (owns_open c _) $$ H
  icases H with ⟨%f, %hf, H⟩
  iapply (wp_store 𝒱₀ (c : Thread nD τ) none Set.univ (m := M) (r := r) (Mk := Finset.univ) ((View.setOn_univ (M.access r)).le.trans (slot_set M r hr hq).ge)) $$ H
  iintro H
  iapply Hk
  have hv : ((M.slice r hr).squeeze s' hq).view.read (Elt F) ((M.access r).write (Elt F) f w Finset.univ) = shapeCast s' w h1 := by
    rw [read_slot M r hr hq h1]
    show shapeCast s' ((M.access r).read (Elt F) ((M.access r).write (Elt F) f w Finset.univ)) h1 = _
    rw [View.read_write_univ]
  iapply (owns_at c ((M.slice r hr).squeeze s' hq) ((M.access r).write (Elt F) f w Finset.univ) hv) $$ H

abbrev rW : Rect S1024x2048 := Rect.unit (s := S1024x2048) ![0, 0] S1024x2048.size inb_S1024x2048_S1024x2048_0_0

omit [FloatOps F] in
theorem zero2 : (![0, 0] : Fin 2 → Nat) = fun _ => 0 := funext fun a => by fin_cases a <;> rfl

theorem rW_emb (i : S1024x2048.Idx) : rW.emb i = i := by
  funext a; apply Fin.ext; fin_cases a <;> simp [Rect.emb, Rect.unit]

omit [FloatOps F] in
theorem access_read (M : Memref sig .tc .vmem S1024x2048 e) (f : M.view.ty.Contents (Elt F)) :
    (M.access rW).read (Elt F) f = M.view.read (Elt F) f := by
  funext i
  show M.view.read (Elt F) f (rW.emb i) = _
  rw [rW_emb]

omit [FloatOps F] in
theorem access_set (M : Memref sig .tc .vmem S1024x2048 e) : (M.access rW).set = M.view.set := by
  show (M.view.slice rW).set = _
  rw [View.set_slice, show rW.set = Finset.univ from Finset.eq_univ_iff_forall.mpr fun i => Rect.mem_set_unit.mpr fun a => ?_]
  · rfl
  · have := (i a).isLt
    fin_cases a <;> exact ⟨Nat.zero_le _, by simpa using this⟩

/-- Loading a whole `1024 × 2048` buffer, -/
theorem load_whole {M : Memref sig .tc .vmem S1024x2048 e} {hl : M.view.LoadsAt rW.toLoadRect}
    {k : (S1024x2048.Idx → Elt F e) → Prog (TpuEff nD τ sig (Elt F) Λ₀ .tc) α} (X : S1024x2048.Idx → Elt F e) :
    (owns (c : Thread nD τ) M q X : sProp 𝕄)
      ⊢ iprop((owns (c : Thread nD τ) M q X -∗ runs c (k X) Q) -∗ runs c (.op (.load M rW.toLoadRect hl) k) Q) := by
  iintro H Hk
  ihave H := (owns_open c _) $$ H
  icases H with ⟨%f, %hf, H⟩
  iapply (wp_load_rect 𝒱₀ (c : Thread nD τ) none Set.univ (m := M) (r := rW) (by rw [access_set])) $$ H
  iintro H
  rw [access_read, hf]
  iapply Hk
  iapply (owns_at c _ f hf) $$ H

/-- and storing one. -/
theorem store_whole {M : Memref sig .tc .vmem S1024x2048 e} {w : S1024x2048.Idx → Elt F e} {hx : (M.access rW).Stores Finset.univ}
    {hm : (Finset.univ : Finset rW.shape.Idx) = Finset.univ ∨ ∀ a, rW.stride a = 1}
    {k : PUnit → Prog (TpuEff nD τ sig (Elt F) Λ₀ .tc) α} (X : S1024x2048.Idx → Elt F e) :
    (owns (c : Thread nD τ) M fullShare X : sProp 𝕄)
      ⊢ iprop((owns (c : Thread nD τ) M fullShare w -∗ runs c (k ⟨⟩) Q) -∗ runs c (.op (.store M rW w Finset.univ hx hm) k) Q) := by
  iintro H Hk
  ihave H := (owns_open c _) $$ H
  icases H with ⟨%f, %hf, H⟩
  iapply (wp_store 𝒱₀ (c : Thread nD τ) none Set.univ (m := M) (r := rW) (Mk := Finset.univ) (by rw [View.setOn_univ, access_set])) $$ H
  iintro H
  iapply Hk
  iapply (owns_at c M ((M.access rW).write (Elt F) f w Finset.univ) ((access_read M _).symm.trans (View.read_write_univ (v := M.access rW) f w))) $$ H

/-- Reading the one word of a scale. -/
theorem load_scale {M : Memref sig .tc .smem S1 .f32} {hw : (M.access rs).Loads} {x : rs.shape.Idx}
    {k : Elt F .f32 → Prog (TpuEff nD τ sig (Elt F) Λ₀ .tc) α} {q : PosShare TreeShare}
    {f : Buf (Elt F) (M.view.loc (c : Thread nD τ))} :
    (M.view.loc (c : Thread nD τ) ↦{q} f : sProp 𝕄)
      ⊢ iprop(((M.view.loc (c : Thread nD τ) ↦{q} f) -∗ runs c (k ((M.access rs).read (Elt F) f x)) Q) -∗ runs c (smemLoadElt M rs hw x .ret >>= k) Q) := by
  rw [show (smemLoadElt M rs hw x .ret >>= k) = smemLoadElt M rs hw x k from rfl]
  iintro H Hk
  iapply (wp_smemLoadElt 𝒱₀ (c : Thread nD τ) none Set.univ (m := M) (r := rs) (Finset.subset_univ _)) $$ H
  iexact Hk

end LoadStore

/-! ## What a device owes, and the records every device shares -/

/-- Device `c` owes the payments `l`. -/
def debt (c : Dev nD) (l : List (GSem nD τ sig × ℕ)) : sProp 𝕄 := iprop(∃ W, owes (c : Thread nD τ) (owing l) W)

variable (m : (ℓ : Loc nD τ sig) → Buf (Elt F) ℓ) (K : Dev nD × Cell → ℕ)

/-- The invariant of every shared semaphore, and the mark that its one round has begun. -/
def records : sProp 𝕄 :=
  bigSep Finset.univ fun c : Dev nD => bigSep Finset.univ fun k : Cell =>
    iprop(cellInv ER (sched m) (K (c, k)) (cell c k) ∗ reached ER (cell c k) 0)

instance records_persistent : BI.Persistent (records m K) := by unfold records; infer_instance

theorem record (c : Dev nD) (k : Cell) : records m K ⊢ iprop(cellInv ER (sched m) (K (c, k)) (cell c k) ∗ reached ER (cell c k) 0) := by
  unfold records
  exact (bigSep_elim (Finset.mem_univ c)).trans (bigSep_elim (Finset.mem_univ k))

/-! ## Copies that stay on the device -/

section Local
variable (c : Dev nD) {α : Type} {Q : α → sProp (MT nD τ sig Unit (Elt F) ℕ UU ℕ)} {sp sp' : Space} {s : Shape} {e : EltTy} {q : PosShare TreeShare}

/-- Starting a copy into `dst`: its flight will hand over `dst` holding what the source held, and the source. -/
theorem copy_in {src : Memref sig .tc sp s e} {dst : Memref sig .tc sp' s e} {sem : DmaSem sig}
    {hsrc : src.view.WordExact} {hdst : dst.view.WordExact} {hsem : DmaTarget.Typed (nD := nD) (τ := τ) (p := .tc) sp (.dma sem) (.here dst)}
    {k : PUnit → Prog (TpuEff nD τ sig (Elt F) Λ₀ .tc) α} {fs : Buf (Elt F) (src.view.loc (c : Thread nD τ))} (hpos : 0 < dst.view.dmaCredit) :
    iprop((src.view.loc (c : Thread nD τ) ↦[src.view.set]{q} fs) ∗ free c dst ∗ semVal ((c : Thread nD τ), .dma sem) 0)
      ⊢ iprop((Transfers.Flight EC (c : Thread nD τ) (.dma sem) () dst.view.dmaCredit
            iprop(has c dst (src.view.read (Elt F) fs) ∗ (src.view.loc (c : Thread nD τ) ↦[src.view.set]{q} fs)) -∗ runs c (k ⟨⟩) Q)
        -∗ runs c (.op (.enqueueDma src (.here dst) (.dma sem) hsrc hdst hsem) k) Q) := by
  unfold free
  iintro ⟨Hs, ⟨%X, Hd⟩, Hv⟩ Hk
  ihave Hd := (owns_open c dst) $$ Hd
  icases Hd with ⟨%fd, %hX, Hd⟩
  iapply (Transfers.wp_dmaLocal EC 𝒱₀ (c : Thread nD τ) none () dst.view.dmaCredit rfl hpos subset_rfl) $$ [Hs Hd Hv]
  · isplitl [Hs]; · iexact Hs
    isplitl [Hd]; · iexact Hd
    iexact Hv
  iintro HF
  iapply Hk
  iapply (Transfers.Flight_mono EC (c : Thread nD τ) (sep_mono_left
    (owns_at c dst (dst.view.write (Elt F) fd (src.view.read (Elt F) fs) Finset.univ) (View.read_write_univ (v := dst.view) fd _)))) $$ HF

/-- Waiting for it, whatever the device still owes to others. -/
theorem wait_in {src' : Memref sig .tc sp' s e} {dst : Memref sig .tc sp s e} {sem : DmaSem sig} {hsrc : src'.view.WordExact} {hdst : dst.view.WordExact}
    {k : PUnit → Prog (TpuEff nD τ sig (Elt F) Λ₀ .tc) α} {D : sProp 𝕄} (l : List (GSem nD τ sig × ℕ)) (hz : kindOf (.dma sem) = none)
    (hl : ∀ p ∈ l, ∃ d k, p.1 = cell d k ∧ 1 ≤ levelOf (some k)) :
    iprop(Transfers.Flight EC (c : Thread nD τ) (.dma sem) () dst.view.dmaCredit D ∗ debt c l ∗ levAts L lv)
      ⊢ iprop((iprop(D ∗ semVal ((c : Thread nD τ), .dma sem) 0 ∗ debt c l) -∗ runs c (k ⟨⟩) Q)
        -∗ runs c (.op (.waitDma2 sem src' dst hsrc hdst) k) Q) := by
  unfold debt
  iintro ⟨HF, ⟨%W, HO⟩, #Hlev⟩ Hk
  iapply (Transfers.wp_waitLocalO EC 𝒱₀ (c : Thread nD τ) none () rfl (O := owing l) (W := W)) $$ [HF HO]
  · isplitl [HF]; · iexact HF
    isplitl [HO]; · iexact HO
    iapply (mayWait c (.dma sem) 0 (by show levelOf (kindOf (.dma sem)) ≤ 0; rw [hz]; exact le_rfl) l hl) $$ Hlev
  iintro ⟨HD, Hv, HO⟩
  iapply Hk
  isplitl [HD]; · iexact HD
  isplitl [Hv]; · iexact Hv
  iexists _; iexact HO

end Local

/-! ## Signals, transfers, and their waits -/

section Shared
variable (c : Dev nD) {α : Type} {Q : α → sProp (MT nD τ sig Unit (Elt F) ℕ UU ℕ)}

/-- Signal `j`: one unit to the barrier of the device it goes to, with the places it hands over. -/
theorem signal (j : Fin 3) (n : Dev nD) (hn : n = sigTo j c) {k : PUnit → Prog (TpuEff nD τ sig (Elt F) Λ₀ .tc) α} (l : List (GSem nD τ sig × ℕ)) :
    iprop(records m K ∗ debt c ((cell (sigTo j c) .bar, 1) :: l) ∗ dutyTok ER (cell (sigTo j c) .bar) 0 j ∗ barPay j (sigTo j c))
      ⊢ iprop((debt c l -∗ runs c (k ⟨⟩) Q) -∗ runs c (.op (.semSignal (n : Thread nD τ) barS 1) k) Q) := by
  subst hn
  unfold debt
  iintro ⟨#HR, ⟨%W, HO⟩, Ht, Hp⟩ Hk
  ihave #Hr := (record m K (sigTo j c) .bar) $$ HR
  icases Hr with ⟨#Hi, #Hm⟩
  iapply (Rounds.wp_signal 𝒱₀ ER (sched m) (c : Thread nD τ) none (dst := (sigTo j c : Thread nD τ)) (κ := K (sigTo j c, .bar)) (r := 0)
      (d := j) (by rw [show ((sigTo j c : Thread nD τ), SemLoc.reg barS) = cell (sigTo j c) .bar from rfl, duties_cell]; exact Finset.mem_univ _)
      (amount_cell m (sigTo j c) .bar j) () (owing l) rfl (W := W))
    $$ [HO Ht Hp]
  · isplitr; · iexact Hi
    isplitl [HO]; · iexact HO
    isplitl [Ht]; · iexact Ht
    isplitl [Hp]
    · rw [show ((sigTo j c : Thread nD τ), SemLoc.reg barS) = cell (sigTo j c) .bar from rfl, payload_cell]; dsimp only [payOf]; iexact Hp
    iexact Hm
  iintro HO
  iapply Hk
  iexists _; iexact HO

/-- The barrier's wait for all three signals: the places they hand over, and the barrier closed. -/
theorem wait_bar {k : PUnit → Prog (TpuEff nD τ sig (Elt F) Λ₀ .tc) α} :
    iprop(records m K ∗ cred (tallyAt (cell c .bar) () 3) ∗ debt c (sendDues c) ∗ levAts L lv ∗ atPos ER (cell c .bar) 0 ∅ 0)
      ⊢ iprop((iprop(debt c (sendDues c) ∗ semVal (cell c .bar) 0 ∗ barPay 0 c ∗ barPay 1 c ∗ barPay 2 c) -∗ runs c (k ⟨⟩) Q)
        -∗ runs c (.op (.semWait barS 3) k) Q) := by
  unfold debt
  iintro ⟨#HR, Hc, ⟨%W, HO⟩, #Hlev, Hat⟩ Hk
  ihave #Hr := (record m K c .bar) $$ HR
  icases Hr with ⟨#Hi, #Hm⟩
  iapply (Rounds.wp_wait_rest_token 𝒱₀ ER (sched m) (c : Thread nD τ) none (κ := K (c, .bar)) (sm := csem .bar)
      (wpE_semWait_eq 𝒱₀ (c : Thread nD τ) none Set.univ) (Set.mem_univ _) () (O := owing (sendDues c)) (W := W) (R := 0) (m := 0) (T := ∅)
      (by rw [Nat.zero_add, expect_bar])) $$ [Hc HO Hat]
  · isplitr; · iexact Hi
    isplitl [Hc]; · iexact Hc
    isplitl [HO]; · iexact HO
    isplitr
    · iapply (mayWait c (csem .bar) 1 (by rw [lv_cell]; exact le_rfl) (sendDues c) (sendDues_cells c)) $$ Hlev
    iexact Hat
  iintro ⟨HO, Hat, -, Hp⟩
  ihave Hp := (Entails.of_eq (rest_bar m c)) $$ Hp
  imod (Rounds.cell_close ER (sched m) (Set.mem_univ (K (c, .bar))) (fun h => h) (R := 0 + 1) (duties_later m (cell c .bar))) $$ [Hat] with Hz
  · isplitr; · iexact Hi
    iexact Hat
  iapply Hk
  isplitl [HO]; · iexists _; iexact HO
  isplitl [Hz]; · iexact Hz
  iexact Hp

/-- Starting transfer `j` from a source that holds `X`: the place it lands on is handed to the receiver holding `X`. -/
theorem send (j : Fin 5) (n : Dev nD) (hn : n = dst j c) {sp sp' : Space} {s : Shape} {e : EltTy} {q : PosShare TreeShare}
    {src : Memref sig .tc sp s e} {tgt : Memref sig .tc sp' s e} {hsc : (tgt : Memref sig (Dev.tc n : Thread nD τ).2.kind sp' s e).view.ref.isScScratch = false}
    {hsrc : src.view.WordExact} {hdst : tgt.view.WordExact}
    {hsem : DmaTarget.Typed sp (.dma (recvSem j)) (.remote (Dev.tc n : Thread nD τ) tgt (.dma (sendSem j)) hsc)}
    {k : PUnit → Prog (TpuEff nD τ sig (Elt F) Λ₀ .tc) α} (X : s.Idx → Elt F e) (l : List (GSem nD τ sig × ℕ))
    (hN : tgt.view.dmaCredit = N j) (hs : (owns (c : Thread nD τ) src q X : sProp 𝕄) ⊢ sendPay m j c)
    (hr : (has (dst j c) tgt X : sProp 𝕄) ⊢ recvPay m j (dst j c)) :
    iprop(records m K ∗ owns (c : Thread nD τ) src q X ∗ free (dst j c) tgt ∗ debt c ((cell (dst j c) (.recv j), N j) :: l)
        ∗ dutyTok ER (cell c (.send j)) 0 0 ∗ dutyTok ER (cell (dst j c) (.recv j)) 0 0)
      ⊢ iprop((iprop(cred (tallyAt (cell c (.send j)) () (N j)) ∗ debt c l) -∗ runs c (k ⟨⟩) Q)
        -∗ runs c (.op (.enqueueDma src (.remote (Dev.tc n : Thread nD τ) tgt (.dma (sendSem j)) hsc) (.dma (recvSem j)) hsrc hdst hsem) k) Q) := by
  subst hn
  unfold debt free
  iintro ⟨#HR, Hs, ⟨%Y, Hd⟩, ⟨%W, HO⟩, Hts, Htr⟩ Hk
  ihave #Hr := (record m K c (.send j)) $$ HR
  icases Hr with ⟨#His, #Hms⟩
  ihave #Hr := (record m K (dst j c) (.recv j)) $$ HR
  icases Hr with ⟨#Hir, #Hmr⟩
  ihave Hs := (owns_open c src) $$ Hs
  icases Hs with ⟨%fs, %hfs, Hs⟩
  ihave Hd := (owns_open (dst j c) tgt) $$ Hd
  icases Hd with ⟨%fd, %hfd, Hd⟩
  iapply (Rounds.wp_send_pointsTo 𝒱₀ ER (sched m) (c : Thread nD τ) none (κ₁ := K (c, .send j)) (κ₂ := K (dst j c, .recv j))
    (sem := .dma (recvSem j)) (r₁ := 0) (r₂ := 0) (d₁ := 0) (d₂ := 0) (c' := (Dev.tc (dst j c) : Thread nD τ)) (dst := tgt) (fs := fs) (fd := fd)
    (by rw [show ((c : Thread nD τ), SemLoc.dma (sendSem j)) = cell c (.send j) from rfl, duties_cell]; exact Finset.mem_singleton_self _)
    (by rw [show ((dst j c : Thread nD τ), SemLoc.dma (recvSem j)) = cell (dst j c) (.recv j) from rfl, duties_cell]; exact Finset.mem_singleton_self _)
    () () (N j) hN (amount_cell m c (.send j) 0) (amount_cell m (dst j c) (.recv j) 0) (owing l) rfl (W := W)
    (by
      rw [show ((c : Thread nD τ), SemLoc.dma (sendSem j)) = cell c (.send j) from rfl, payload_cell]
      exact (owns_at c src fs hfs).trans hs)
    (by
      rw [show ((dst j c : Thread nD τ), SemLoc.dma (recvSem j)) = cell (dst j c) (.recv j) from rfl, payload_cell]
      exact (owns_at (dst j c) tgt _ ((View.read_write_univ (v := tgt.view) fd _).trans hfs)).trans hr)) $$ [Hs Hd HO Hts Htr]
  · isplitr; · iexact His
    isplitr; · iexact Hir
    isplitl [Hs]; · iexact Hs
    isplitl [Hd]; · iexact Hd
    isplitl [HO]; · iexact HO
    isplitl [Hts]; · iexact Hts
    isplitr; · iexact Hms
    isplitl [Htr]; · iexact Htr
    iexact Hmr
  iintro ⟨Hc, HO⟩
  iapply Hk
  isplitl [Hc]; · iexact Hc
  iexists _; iexact HO

/-- Waiting, owing nothing, on a semaphore whose one payment is a transfer's. -/
theorem wait_cell (kd : Cell) (sem : DmaSem sig) (hsem : csem kd = .dma sem) (n : ℕ) {sp sp' : Space} {s s' : Shape} {e e' : EltTy}
    {src' : Memref sig .tc sp' s' e'} {tgt : Memref sig .tc sp s e} {hsrc : src'.view.WordExact} {hdst : tgt.view.WordExact}
    {k : PUnit → Prog (TpuEff nD τ sig (Elt F) Λ₀ .tc) α} (hN : tgt.view.dmaCredit = n) (he : (sched m).expect (cell c kd) 0 = n) {P : sProp 𝕄}
    (hrest : bigSep ((sched m).duties (cell c kd) 0 \ ∅) (fun d => (sched m).payload (cell c kd) 0 d) = P) :
    iprop(records m K ∗ cred (tallyAt (cell c kd) () n) ∗ debt c [] ∗ atPos ER (cell c kd) 0 ∅ 0)
      ⊢ iprop((iprop(debt c [] ∗ semVal (cell c kd) 0 ∗ P) -∗ runs c (k ⟨⟩) Q)
        -∗ runs c (.op (.waitDma2 sem src' tgt hsrc hdst) k) Q) := by
  unfold debt
  subst hN
  iintro ⟨#HR, Hc, ⟨%W, HO⟩, Hat⟩ Hk
  ihave #Hr := (record m K c kd) $$ HR
  icases Hr with ⟨#Hi, #Hm⟩
  iapply (Rounds.wp_wait_rest_token 𝒱₀ ER (sched m) (c : Thread nD τ) none (κ := K (c, kd)) (sm := csem kd)
      (by rw [hsem]; exact wpE_waitDma2_eq 𝒱₀ (c : Thread nD τ) none Set.univ) (Set.mem_univ _) () (O := owing []) (W := W) (R := 0) (m := 0) (T := ∅)
      (by rw [Nat.zero_add, he])) $$ [Hc HO Hat]
  · isplitr; · iexact Hi
    isplitl [Hc]; · iexact Hc
    isplitl [HO]; · iexact HO
    isplitr; · rw [show owing [] = 0 from rfl, MayWait_zero]; iempintro
    iexact Hat
  iintro ⟨HO, Hat, -, Hp⟩
  ihave Hp := (Entails.of_eq hrest) $$ Hp
  imod (Rounds.cell_close ER (sched m) (Set.mem_univ (K (c, kd))) (fun h => h) (R := 0 + 1) (duties_later m (cell c kd))) $$ [Hat] with Hz
  · isplitr; · iexact Hi
    iexact Hat
  iapply Hk
  isplitl [HO]; · iexists _; iexact HO
  isplitl [Hz]; · iexact Hz
  iexact Hp

/-- Waiting for transfer `j` to land here, -/
theorem wait_recv (j : Fin 5) {sp sp' : Space} {s s' : Shape} {e e' : EltTy}
    {src' : Memref sig .tc sp' s' e'} {tgt : Memref sig .tc sp s e} {hsrc : src'.view.WordExact} {hdst : tgt.view.WordExact}
    {k : PUnit → Prog (TpuEff nD τ sig (Elt F) Λ₀ .tc) α} (hN : tgt.view.dmaCredit = N j) :
    iprop(records m K ∗ cred (tallyAt (cell c (.recv j)) () (N j)) ∗ debt c [] ∗ atPos ER (cell c (.recv j)) 0 ∅ 0)
      ⊢ iprop((iprop(debt c [] ∗ semVal (cell c (.recv j)) 0 ∗ recvPay m j c) -∗ runs c (k ⟨⟩) Q)
        -∗ runs c (.op (.waitDma2 (recvSem j) src' tgt hsrc hdst) k) Q) :=
  wait_cell m K c (.recv j) (recvSem j) rfl (N j) hN (expect_recv m c j) (rest_recv m c j)

/-- and for its source to be free again. -/
theorem wait_send (j : Fin 5) {sp sp' : Space} {s s' : Shape} {e e' : EltTy}
    {src' : Memref sig .tc sp' s' e'} {tgt : Memref sig .tc sp s e} {hsrc : src'.view.WordExact} {hdst : tgt.view.WordExact}
    {k : PUnit → Prog (TpuEff nD τ sig (Elt F) Λ₀ .tc) α} (hN : tgt.view.dmaCredit = N j) :
    iprop(records m K ∗ cred (tallyAt (cell c (.send j)) () (N j)) ∗ debt c [] ∗ atPos ER (cell c (.send j)) 0 ∅ 0)
      ⊢ iprop((iprop(debt c [] ∗ semVal (cell c (.send j)) 0 ∗ sendPay m j c) -∗ runs c (k ⟨⟩) Q)
        -∗ runs c (.op (.waitDma2 (sendSem j) src' tgt hsrc hdst) k) Q) :=
  wait_cell m K c (.send j) (sendSem j) rfl (N j) hN (expect_send m c j) (rest_send m c j)

end Shared

end Cert.Scatter

end
-- ==== Proof.Parts.lean ====
/- THE PARTS OF THE BODY. The kernel's body runs in eight parts and a last few waits. One lemma per part, at a symbolic
   device `c`: what the part takes, and what it leaves. -/
module

public import proofs.«01_k».proof.Proof.Steps

@[expose] public section

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-! ## A block of `x` on its way in

Two blocks of `x` arrive at a time, so each copy reads `x` with half a share. -/

/-- Device `c` holds its `x`, with share `q`, -/
abbrev xPts (q : PosShare TreeShare) : sProp 𝕄 := (c : Thread nD τ).loc main_arg0 ↦{q} xAt m c
/-- and its `w`. -/
abbrev wPts : sProp 𝕄 := (c : Thread nD τ).loc main_arg1 ↦{fullShare} wAt m c
/-- One of its own semaphores at zero. -/
abbrev zero (sem : DmaSem sig) : sProp 𝕄 := semVal ((c : Thread nD τ), .dma sem) 0

theorem sendDues_low : ∀ p ∈ sendDues c, ∃ d k, p.1 = cell d k ∧ 1 ≤ levelOf (some k) :=
  fun p hp => let ⟨d, k, e, h⟩ := sendDues_cells c p hp; ⟨d, k, e, Nat.le_of_succ_le h⟩

theorem runs_ret {α : Type} {Q : α → sProp (MT nD τ sig Unit (Elt F) ℕ UU ℕ)} (a : α) : Q a ⊢ runs c (.ret a) Q := by
  rw [runs, wp_ret]; iintro H; imodintro; iexact H

/-- Rows of `x` from `off` on. -/
abbrev xRows (off : Fin S4096x1024.rank → Nat) (inb : ∀ a, off a + S1024x1024.size a ≤ S4096x1024.size a) : Memref sig .tc .hbm S1024x1024 .f32 :=
  xM.slice (Rect.unit (s := S4096x1024) off S1024x1024.size inb) (fun _ => rfl)

/-- They are in flight to the slot `S`, and the other rows are at hand. -/
def xFly (off : Fin S4096x1024.rank → Nat) (inb : ∀ a, off a + S1024x1024.size a ≤ S4096x1024.size a)
    (S : Memref sig .tc .vmem S1024x1024 .f32) (sem : DmaSem sig) (q : PosShare TreeShare) : sProp 𝕄 :=
  iprop(Transfers.Flight EC (c : Thread nD τ) (.dma sem) () S.view.dmaCredit
      iprop(has c S ((xRows off inb).view.read (Elt F) (xAt m c)) ∗ ((xRows off inb).view.loc (c : Thread nD τ) ↦[(xRows off inb).view.set]{q} xAt m c))
    ∗ ((c : Thread nD τ).loc main_arg0 ↦[Finset.univ \ (xRows off inb).view.set]{q} xAt m c))

section X
variable {α : Type} {Q : α → sProp (MT nD τ sig Unit (Elt F) ℕ UU ℕ)}
  (off : Fin S4096x1024.rank → Nat) (inb : ∀ a, off a + S1024x1024.size a ≤ S4096x1024.size a)
  {S : Memref sig .tc .vmem S1024x1024 .f32} {sem : DmaSem sig} {q : PosShare TreeShare}

theorem start_x {hsrc : (xRows off inb).view.WordExact} {hdst : S.view.WordExact} {hsem : DmaTarget.Typed (nD := nD) (τ := τ) (p := .tc) .hbm (.dma sem) (.here S)}
    {k : PUnit → Prog (TpuEff nD τ sig (Elt F) Λ₀ .tc) α} (hpos : 0 < S.view.dmaCredit) :
    iprop(xPts m c q ∗ free c S ∗ zero c sem)
      ⊢ iprop((xFly m c off inb S sem q -∗ runs c (k ⟨⟩) Q) -∗ runs c (.op (.enqueueDma (xRows off inb) (.here S) (.dma sem) hsrc hdst hsem) k) Q) := by
  unfold xFly
  iintro ⟨Hx, Hf, Hz⟩ Hk
  ihave Hx := (pointsTo_split_subset (ℓ := (c : Thread nD τ).loc main_arg0) (I := (xRows off inb).view.set) (Finset.subset_univ _)).1 $$ Hx
  icases Hx with ⟨Hx, Hr⟩
  iapply (copy_in c (src := xRows off inb) (dst := S) (q := q) (fs := xAt m c) hpos) $$ [Hx Hf Hz]
  · iframe Hx Hf; iexact Hz
  iintro HF
  iapply Hk
  iframe HF; iexact Hr

theorem wait_x {src' : Memref sig .tc .hbm S1024x1024 .f32} {hsrc : src'.view.WordExact} {hdst : S.view.WordExact}
    {k : PUnit → Prog (TpuEff nD τ sig (Elt F) Λ₀ .tc) α} (X : Vec F S1024x1024 .f32)
    (hX : (xRows off inb).view.read (Elt F) (xAt m c) = X) (l : List (GSem nD τ sig × ℕ)) (hz : kindOf (.dma sem) = none)
    (hl : ∀ p ∈ l, ∃ d k, p.1 = cell d k ∧ 1 ≤ levelOf (some k)) :
    iprop(xFly m c off inb S sem q ∗ debt c l ∗ levAts L lv)
      ⊢ iprop((iprop(has c S X ∗ xPts m c q ∗ zero c sem ∗ debt c l) -∗ runs c (k ⟨⟩) Q)
        -∗ runs c (.op (.waitDma2 sem src' S hsrc hdst) k) Q) := by
  subst hX
  unfold xFly
  iintro ⟨⟨HF, Hr⟩, HO, #Hlev⟩ Hk
  iapply (wait_in c l hz hl) $$ [HF HO]
  · iframe HF HO; iexact Hlev
  iintro ⟨⟨Hs, Hx⟩, Hz, HO⟩
  ihave Hx := (pointsTo_split_subset (ℓ := (c : Thread nD τ).loc main_arg0) (I := (xRows off inb).view.set) (Finset.subset_univ _)).2 $$ [Hx Hr]
  · isplitl [Hx]; · iexact Hx
    iexact Hr
  iapply Hk
  iframe Hs Hx Hz HO

end X

/-! ## The parts -/

theorem NXf_pos : 0 < (slotX0 xinM).view.dmaCredit := View.dmaCredit_pos _ (by decide)
theorem NXf1_pos : 0 < (slotX1 xinM).view.dmaCredit := View.dmaCredit_pos _ (by decide)
theorem NWf_pos : 0 < winM.view.dmaCredit := View.dmaCredit_pos _ (by decide)

/-- `w` in flight to its place. -/
def wFly : sProp 𝕄 :=
  Transfers.Flight EC (c : Thread nD τ) (.dma (sem4 localS)) () winM.view.dmaCredit
    iprop(has c winM (wAt m c) ∗ wPts m c)

theorem part1 {Q : (Σ' (d0 : Dev nD) (v2 : BitVec 32) (v5 : BitVec 32) (v7 : BitVec 32) (v9 : BitVec 32), Sems sig S_) → sProp (MT nD τ sig Unit (Elt F) ℕ UU ℕ)} :
    iprop((wPts m c ∗ free c winM ∗ zero c (sem4 localS))
        ∗ (xPts m c fullShare.left ∗ free c (slotX0 xinM) ∗ zero c (sem0 localS))
        ∗ (xPts m c fullShare.right ∗ free c (slotX1 xinM) ∗ zero c (sem1 localS))
        ∗ (∀ v2 v5 v7 v9, (wFly m c ∗ xFly m c (k0_off1 c 1#32) (k0_off1_inb c 0) (slotX0 xinM) (sem0 localS) fullShare.left
            ∗ xFly m c (k0_off2 c) (k0_off2_inb c) (slotX1 xinM) (sem1 localS) fullShare.right)
            -∗ Q ⟨c, v2, v5, v7, v9, SemArray.scalar (sig.barrier 0 rfl)⟩))
      ⊢ runs c (k0_part1 xM (Memref.isWhole_whole _) wM (Memref.isWhole_whole _) sxM (Memref.isWhole_whole _) swM (Memref.isWhole_whole _) oM (Memref.isWhole_whole _) xinM (Memref.isWhole_whole _) winM (Memref.isWhole_whole _) wsM (Memref.isWhole_whole _) xsM (Memref.isWhole_whole _) psM (Memref.isWhole_whole _) xrM (Memref.isWhole_whole _) wrM (Memref.isWhole_whole _) prM (Memref.isWhole_whole _) localS sendS recvS) Q := by
  rw [k0_part1_eq_skeleton]; unfold k0_part1_skel
  simp only [Prog.lift, Prog.bind_op, Prog.bind_ret, Prog.pure_eq_ret, wp_deviceId]
  iintro ⟨Hw, Hx0, Hx1, Hk⟩
  icases Hw with ⟨Hw, Hwi, Hz⟩
  iapply (copy_in c (src := wM) (dst := winM) (q := fullShare) (fs := wAt m c) NWf_pos) $$ [Hw Hwi Hz]
  · iframe Hwi Hz; rw [View.set_whole]; iexact Hw
  iintro HW
  iapply (start_x m c (k0_off1 c 1#32) (k0_off1_inb c 0) NXf_pos) $$ Hx0
  iintro HX0
  iapply (start_x m c (k0_off2 c) (k0_off2_inb c) NXf1_pos) $$ Hx1
  iintro HX1
  iapply runs_ret
  iapply Hk
  iframe HX0 HX1
  unfold wFly
  rw [View.set_whole]
  iexact HW

theorem give0 : iprop(free (F := F) c (slotX1 xrM) ∗ free c (slotW1 wrM)) ⊢ barPay 0 (sigTo 0 c) := by
  unfold barPay sigTo; dsimp only; rw [prv_nxt]
theorem give1 : free (F := F) c prM ⊢ barPay 1 (sigTo 1 c) := by
  unfold barPay sigTo; dsimp only; rw [opp_opp]
theorem give2 : iprop(free (F := F) c (slotX0 xrM) ∗ free c (slotW0 wrM)) ⊢ barPay 2 (sigTo 2 c) := by
  unfold barPay sigTo; dsimp only; rw [nxt_prv]

/-- The places the three signals hand device `c`: those it will send to. -/
theorem given : iprop(barPay (F := F) 0 c ∗ barPay 1 c ∗ barPay 2 c)
    ⊢ iprop((free (prv c) (slotX1 xrM) ∗ free (prv c) (slotW1 wrM)) ∗ free (opp c) prM ∗ (free (nxt c) (slotX0 xrM) ∗ free (nxt c) (slotW0 wrM))) := by
  unfold barPay; exact BI.Entails.refl _

theorem part2 {Q : PUnit → sProp (MT nD τ sig Unit (Elt F) ℕ UU ℕ)} (v2 v7 : BitVec 32) :
    iprop(records m K ∗ levAts L lv ∗ debt c (dues c)
        ∗ (dutyTok ER (cell (nxt c) .bar) 0 0 ∗ dutyTok ER (cell (opp c) .bar) 0 1 ∗ dutyTok ER (cell (prv c) .bar) 0 2)
        ∗ (free c (slotX0 xrM) ∗ free c (slotW0 wrM) ∗ free c (slotX1 xrM) ∗ free c (slotW1 wrM) ∗ free c prM)
        ∗ (cred (tallyAt (cell c .bar) () 3) ∗ atPos ER (cell c .bar) 0 ∅ 0)
        ∗ xFly m c (k0_off1 c 1#32) (k0_off1_inb c 0) (slotX0 xinM) (sem0 localS) fullShare.left
        ∗ free c (slotX0 xsM)
        ∗ ((debt c (sendDues c) ∗ semVal (cell c .bar) 0
            ∗ ((free (prv c) (slotX1 xrM) ∗ free (prv c) (slotW1 wrM)) ∗ free (opp c) prM ∗ (free (nxt c) (slotX0 xrM) ∗ free (nxt c) (slotW0 wrM)))
            ∗ has c (slotX0 xinM) (xNxtAt m c) ∗ xPts m c fullShare.left ∗ zero c (sem0 localS) ∗ has c (slotX0 xsM) (sentX0 m c)) -∗ Q ⟨⟩))
      ⊢ runs c (k0_part2 xM (Memref.isWhole_whole _) wM (Memref.isWhole_whole _) sxM (Memref.isWhole_whole _) swM (Memref.isWhole_whole _) oM (Memref.isWhole_whole _) xinM (Memref.isWhole_whole _) winM (Memref.isWhole_whole _) wsM (Memref.isWhole_whole _) xsM (Memref.isWhole_whole _) psM (Memref.isWhole_whole _) xrM (Memref.isWhole_whole _) wrM (Memref.isWhole_whole _) prM (Memref.isWhole_whole _) localS sendS recvS c v2 v7 (SemArray.scalar (sig.barrier 0 rfl))) Q := by
  rw [k0_part2_eq_skeleton]; unfold k0_part2_skel
  simp only [semSignalWord, semWaitWord, Prog.lift, Prog.bind_op, Prog.bind_ret, Prog.pure_eq_ret]
  iintro ⟨#HR, #Hlev, HO, ⟨Ht0, Ht1, Ht2⟩, ⟨Hx0, Hw0, Hx1, Hw1, Hp⟩, ⟨Hc, Hat⟩, HF, ⟨%X, Hxs⟩, Hk⟩
  ihave G0 := (give0 c) $$ [Hx1 Hw1]
  · iframe Hx1 Hw1
  ihave G1 := (give1 c) $$ Hp
  ihave G2 := (give2 c) $$ [Hx0 Hw0]
  · iframe Hx0 Hw0
  iapply (signal m K c 0 _ (dev1_eq c) _) $$ [HO Ht0 G0]
  · isplitr; · iexact HR
    isplitl [HO]; · iexact HO
    isplitl [Ht0]; · iexact Ht0
    iexact G0
  iintro HO
  iapply (signal m K c 1 _ (dev2_eq c) _) $$ [HO Ht1 G1]
  · isplitr; · iexact HR
    isplitl [HO]; · iexact HO
    isplitl [Ht1]; · iexact Ht1
    iexact G1
  iintro HO
  iapply (signal m K c 2 _ (dev3_eq c) (sendDues c)) $$ [HO Ht2 G2]
  · isplitr; · iexact HR
    isplitl [HO]; · iexact HO
    isplitl [Ht2]; · iexact Ht2
    iexact G2
  iintro HO
  iapply (wait_bar m K c) $$ [Hc HO Hat]
  · isplitr; · iexact HR
    isplitl [Hc]; · iexact Hc
    isplitl [HO]; · iexact HO
    isplitr; · iexact Hlev
    iexact Hat
  iintro ⟨HO, Hv, HP⟩
  iapply (wait_x m c (k0_off1 c 1#32) (k0_off1_inb c 0) (xNxtAt m c) rfl (sendDues c) (by decide) (sendDues_low c)) $$ [HF HO]
  · isplitl [HF]; · iexact HF
    isplitl [HO]; · iexact HO
    iexact Hlev
  iintro ⟨Hx, Hxp, Hz, HO⟩
  iapply (load_slot c (M := xinM) (r := rx0) (xNxtAt m c) (upX (xNxtAt m c)) shapeCasts_S1x1024x1024_S1024x1024 shapeCasts_S1024x1024_S1x1024x1024 rfl) $$ Hx
  iintro Hx
  iapply (load_slot c (M := xsM) (r := rx0) X (upX X) shapeCasts_S1x1024x1024_S1024x1024 shapeCasts_S1024x1024_S1x1024x1024 rfl) $$ Hxs
  iintro Hxs
  iapply (store_slot c (M := xsM) (r := rx0) X shapeCasts_S1x1024x1024_S1024x1024) $$ Hxs
  iintro Hxs
  iapply runs_ret
  iapply Hk
  iframe HO Hv Hx Hxp Hz Hxs
  iapply (given c) $$ HP

/-! What a transfer carries is what its receiver expects. -/

theorem lands0 : (has (dst 0 c) (slotX0 xrM) (sentX0 m c) : sProp 𝕄) ⊢ recvPay m 0 (dst 0 c) := by
  unfold recvPay dst; dsimp only; rw [prv_nxt]
theorem lands1 : (has (dst 1 c) (slotX1 xrM) (sentX1 m c) : sProp 𝕄) ⊢ recvPay m 1 (dst 1 c) := by
  unfold recvPay dst; dsimp only; rw [nxt_prv]
theorem lands2 : (has (dst 2 c) (slotW0 wrM) (sentW m c) : sProp 𝕄) ⊢ recvPay m 2 (dst 2 c) := by
  unfold recvPay dst; dsimp only; rw [prv_nxt]
theorem lands3 : (has (dst 3 c) (slotW1 wrM) (sentW m c) : sProp 𝕄) ⊢ recvPay m 3 (dst 3 c) := by
  unfold recvPay dst; dsimp only; rw [nxt_prv]
theorem lands4 : (has (dst 4 c) prM (sentP m c) : sProp 𝕄) ⊢ recvPay m 4 (dst 4 c) := by
  unfold recvPay dst; dsimp only; rw [opp_opp]

/-- What a device still owes after the first transfer, after the second, and so on. -/
abbrev due1 : List (GSem nD τ sig × ℕ) := (sendDues c).tail
abbrev due2 : List (GSem nD τ sig × ℕ) := (due1 c).tail
abbrev due3 : List (GSem nD τ sig × ℕ) := (due2 c).tail
abbrev due4 : List (GSem nD τ sig × ℕ) := (due3 c).tail

theorem low_tail {l : List (GSem nD τ sig × ℕ)} (h : ∀ p ∈ l, ∃ d k, p.1 = cell d k ∧ 1 ≤ levelOf (some k)) :
    ∀ p ∈ l.tail, ∃ d k, p.1 = cell d k ∧ 1 ≤ levelOf (some k) := fun p hp => h p (List.mem_of_mem_tail hp)

theorem part3 {Q : PUnit → sProp (MT nD τ sig Unit (Elt F) ℕ UU ℕ)} (v5 : BitVec 32) :
    iprop(records m K ∗ levAts L lv ∗ debt c (sendDues c)
        ∗ (dutyTok ER (cell c (.send 0)) 0 0 ∗ dutyTok ER (cell (nxt c) (.recv 0)) 0 0 ∗ has c (slotX0 xsM) (sentX0 m c) ∗ free (nxt c) (slotX0 xrM))
        ∗ (dutyTok ER (cell c (.send 1)) 0 0 ∗ dutyTok ER (cell (prv c) (.recv 1)) 0 0 ∗ free c (slotX1 xsM) ∗ free (prv c) (slotX1 xrM))
        ∗ xFly m c (k0_off2 c) (k0_off2_inb c) (slotX1 xinM) (sem1 localS) fullShare.right ∗ wFly m c
        ∗ ((debt c (due2 c) ∗ cred (tallyAt (cell c (.send 0)) () (N 0)) ∗ cred (tallyAt (cell c (.send 1)) () (N 1))
            ∗ (has c (slotX1 xinM) (xPrvAt m c) ∗ xPts m c fullShare.right ∗ zero c (sem1 localS))
            ∗ (has c winM (wAt m c) ∗ wPts m c ∗ zero c (sem4 localS))) -∗ Q ⟨⟩))
      ⊢ runs c (k0_part3 xM (Memref.isWhole_whole _) wM (Memref.isWhole_whole _) sxM (Memref.isWhole_whole _) swM (Memref.isWhole_whole _) oM (Memref.isWhole_whole _) xinM (Memref.isWhole_whole _) winM (Memref.isWhole_whole _) wsM (Memref.isWhole_whole _) xsM (Memref.isWhole_whole _) psM (Memref.isWhole_whole _) xrM (Memref.isWhole_whole _) wrM (Memref.isWhole_whole _) prM (Memref.isWhole_whole _) localS sendS recvS c v5) Q := by
  rw [k0_part3_eq_skeleton]; unfold k0_part3_skel
  simp only [Prog.lift, Prog.bind_op, Prog.bind_ret, Prog.pure_eq_ret]
  iintro ⟨#HR, #Hlev, HO, ⟨Hs0, Hr0, Hx0, Hd0⟩, ⟨Hs1, Hr1, ⟨%X, Hx1⟩, Hd1⟩, HF, HW, Hk⟩
  iapply (send m K c 0 _ (dev4_eq c) (src := slotX0 xsM) (tgt := slotX0 xrM) (sentX0 m c) (due1 c) rfl (BI.Entails.refl _) (lands0 m c)) $$ [HO Hs0 Hr0 Hx0 Hd0]
  · isplitr; · iexact HR
    isplitl [Hx0]; · iexact Hx0
    isplitl [Hd0]; · iexact Hd0
    isplitl [HO]; · iexact HO
    isplitl [Hs0]; · iexact Hs0
    iexact Hr0
  iintro ⟨Hc0, HO⟩
  iapply (wait_x m c (k0_off2 c) (k0_off2_inb c) (xPrvAt m c) rfl (due1 c) (by decide) (low_tail (sendDues_low c))) $$ [HF HO]
  · isplitl [HF]; · iexact HF
    isplitl [HO]; · iexact HO
    iexact Hlev
  iintro ⟨Hi, Hxp, Hz, HO⟩
  iapply (load_slot c (M := xinM) (r := rx1) (xPrvAt m c) (upX (xPrvAt m c)) shapeCasts_S1x1024x1024_S1024x1024 shapeCasts_S1024x1024_S1x1024x1024 rfl) $$ Hi
  iintro Hi
  iapply (load_slot c (M := xsM) (r := rx1) X (upX X) shapeCasts_S1x1024x1024_S1024x1024 shapeCasts_S1024x1024_S1x1024x1024 rfl) $$ Hx1
  iintro Hx1
  iapply (store_slot c (M := xsM) (r := rx1) X shapeCasts_S1x1024x1024_S1024x1024) $$ Hx1
  iintro Hx1
  iapply (send m K c 1 _ (dev5_eq c) (src := slotX1 xsM) (tgt := slotX1 xrM) (sentX1 m c) (due2 c) rfl (BI.Entails.refl _) (lands1 m c)) $$ [HO Hs1 Hr1 Hx1 Hd1]
  · isplitr; · iexact HR
    isplitl [Hx1]; · iexact Hx1
    isplitl [Hd1]; · iexact Hd1
    isplitl [HO]; · iexact HO
    isplitl [Hs1]; · iexact Hs1
    iexact Hr1
  iintro ⟨Hc1, HO⟩
  unfold wFly
  iapply (wait_in c (due2 c) (by decide) (low_tail (low_tail (sendDues_low c)))) $$ [HW HO]
  · isplitl [HW]; · iexact HW
    isplitl [HO]; · iexact HO
    iexact Hlev
  iintro ⟨⟨Hw, Hwp⟩, Hzw, HO⟩
  iapply runs_ret
  iapply Hk
  iframe HO Hc0 Hc1 Hi Hxp Hz Hw Hwp Hzw

theorem part4 {Q : PUnit → sProp (MT nD τ sig Unit (Elt F) ℕ UU ℕ)} (v2 v5 v7 v9 : BitVec 32) :
    iprop(records m K ∗ debt c (due2 c)
        ∗ (dutyTok ER (cell c (.send 2)) 0 0 ∗ dutyTok ER (cell (nxt c) (.recv 2)) 0 0 ∗ free (nxt c) (slotW0 wrM))
        ∗ (dutyTok ER (cell c (.send 3)) 0 0 ∗ dutyTok ER (cell (prv c) (.recv 3)) 0 0 ∗ free (prv c) (slotW1 wrM))
        ∗ has c winM (wAt m c) ∗ free c wsM
        ∗ (xPts m c fullShare.left ∗ free c (slotX0 xinM) ∗ zero c (sem2 localS))
        ∗ ((debt c (due4 c) ∗ cred (tallyAt (cell c (.send 2)) () (N 2)) ∗ cred (tallyAt (cell c (.send 3)) () (N 3))
            ∗ has c winM (wAt m c) ∗ xFly m c (k0_off1 c 2#32) (k0_off1_inb c 1) (slotX0 xinM) (sem2 localS) fullShare.left) -∗ Q ⟨⟩))
      ⊢ runs c (k0_part4 xM (Memref.isWhole_whole _) wM (Memref.isWhole_whole _) sxM (Memref.isWhole_whole _) swM (Memref.isWhole_whole _) oM (Memref.isWhole_whole _) xinM (Memref.isWhole_whole _) winM (Memref.isWhole_whole _) wsM (Memref.isWhole_whole _) xsM (Memref.isWhole_whole _) psM (Memref.isWhole_whole _) xrM (Memref.isWhole_whole _) wrM (Memref.isWhole_whole _) prM (Memref.isWhole_whole _) localS sendS recvS c v2 v5 v7 v9) Q := by
  rw [k0_part4_eq_skeleton]; unfold k0_part4_skel
  simp only [Prog.lift, Prog.bind_op, Prog.bind_ret, Prog.pure_eq_ret]
  iintro ⟨#HR, HO, ⟨Hs2, Hr2, Hd2⟩, ⟨Hs3, Hr3, Hd3⟩, Hw, ⟨%X, Hws⟩, HX, Hk⟩
  iapply (load_whole c (M := winM) (wAt m c)) $$ Hw
  iintro Hw
  iapply (load_whole c (M := wsM) X) $$ Hws
  iintro Hws
  iapply (store_whole c (M := wsM) X) $$ Hws
  iintro Hws
  ihave Hws := (owns_halves (c : Thread nD τ) wsM fullShare (k0_pay3 (wAt m c))).1 $$ Hws
  icases Hws with ⟨Hl, Hr⟩
  iapply (send m K c 2 _ (dev6_eq c) (src := wsM) (tgt := slotW0 wrM) (sentW m c) (due3 c) rfl (BI.Entails.refl _) (lands2 m c)) $$ [HO Hs2 Hr2 Hl Hd2]
  · isplitr; · iexact HR
    isplitl [Hl]; · iexact Hl
    isplitl [Hd2]; · iexact Hd2
    isplitl [HO]; · iexact HO
    isplitl [Hs2]; · iexact Hs2
    iexact Hr2
  iintro ⟨Hc2, HO⟩
  iapply (send m K c 3 _ (dev7_eq c) (src := wsM) (tgt := slotW1 wrM) (sentW m c) (due4 c) rfl (BI.Entails.refl _) (lands3 m c)) $$ [HO Hs3 Hr3 Hr Hd3]
  · isplitr; · iexact HR
    isplitl [Hr]; · iexact Hr
    isplitl [Hd3]; · iexact Hd3
    isplitl [HO]; · iexact HO
    isplitl [Hs3]; · iexact Hs3
    iexact Hr3
  iintro ⟨Hc3, HO⟩
  iapply (start_x m c (k0_off1 c 2#32) (k0_off1_inb c 1) NXf_pos) $$ HX
  iintro HX
  iapply runs_ret
  iapply Hk
  iframe HO Hc2 Hc3 Hw HX

theorem part5 {Q : FVec F S1024x2048 .bf16 → sProp (MT nD τ sig Unit (Elt F) ℕ UU ℕ)} (v9 : BitVec 32) :
    iprop(records m K ∗ levAts L lv ∗ debt c (due4 c)
        ∗ (dutyTok ER (cell c (.send 4)) 0 0 ∗ dutyTok ER (cell (opp c) (.recv 4)) 0 0 ∗ free c psM ∗ free (opp c) prM)
        ∗ has c winM (wAt m c)
        ∗ xFly m c (k0_off1 c 2#32) (k0_off1_inb c 1) (slotX0 xinM) (sem2 localS) fullShare.left
        ∗ (xPts m c fullShare.right ∗ free c (slotX1 xinM) ∗ zero c (sem3 localS))
        ∗ ((debt c [] ∗ cred (tallyAt (cell c (.send 4)) () (N 4)) ∗ has c winM (wAt m c)
            ∗ (has c (slotX0 xinM) (xOppAt m c) ∗ xPts m c fullShare.left ∗ zero c (sem2 localS))
            ∗ (has c (slotX1 xinM) (xOwnAt m c) ∗ xPts m c fullShare.right ∗ zero c (sem3 localS))) -∗ Q (k0_pay4 (wAt m c))))
      ⊢ runs c (k0_part5 xM (Memref.isWhole_whole _) wM (Memref.isWhole_whole _) sxM (Memref.isWhole_whole _) swM (Memref.isWhole_whole _) oM (Memref.isWhole_whole _) xinM (Memref.isWhole_whole _) winM (Memref.isWhole_whole _) wsM (Memref.isWhole_whole _) xsM (Memref.isWhole_whole _) psM (Memref.isWhole_whole _) xrM (Memref.isWhole_whole _) wrM (Memref.isWhole_whole _) prM (Memref.isWhole_whole _) localS sendS recvS c v9) Q := by
  rw [k0_part5_eq_skeleton]; unfold k0_part5_skel
  simp only [Prog.lift, Prog.bind_op, Prog.bind_ret, Prog.pure_eq_ret]
  iintro ⟨#HR, #Hlev, HO, ⟨Hs4, Hr4, ⟨%X, Hps⟩, Hd4⟩, Hw, HF, HX, Hk⟩
  iapply (start_x m c (k0_off3 c) (k0_off3_inb c) NXf1_pos) $$ HX
  iintro HX
  iapply (load_whole c (M := winM) (wAt m c)) $$ Hw
  iintro Hw
  iapply (wait_x m c (k0_off1 c 2#32) (k0_off1_inb c 1) (xOppAt m c) rfl (due4 c) (by decide) (low_tail (low_tail (low_tail (low_tail (sendDues_low c)))))) $$ [HF HO]
  · isplitl [HF]; · iexact HF
    isplitl [HO]; · iexact HO
    iexact Hlev
  iintro ⟨Hi, Hxl, Hz2, HO⟩
  iapply (load_slot c (M := xinM) (r := rx0) (xOppAt m c) (upX (xOppAt m c)) shapeCasts_S1x1024x1024_S1024x1024 shapeCasts_S1024x1024_S1x1024x1024 rfl) $$ Hi
  iintro Hi
  iapply (load_whole c (M := psM) X) $$ Hps
  iintro Hps
  iapply (store_whole c (M := psM) X) $$ Hps
  iintro Hps
  iapply (send m K c 4 _ (dev8_eq c) (src := psM) (tgt := prM) (sentP m c) [] rfl (BI.Entails.refl _) (lands4 m c)) $$ [HO Hs4 Hr4 Hps Hd4]
  · isplitr; · iexact HR
    isplitl [Hps]; · iexact Hps
    isplitl [Hd4]; · iexact Hd4
    isplitl [HO]; · iexact HO
    isplitl [Hs4]; · iexact Hs4
    iexact Hr4
  iintro ⟨Hc4, HO⟩
  iapply (wait_x m c (k0_off3 c) (k0_off3_inb c) (xOwnAt m c) rfl [] (by decide) (by intro p hp; cases hp)) $$ [HX HO]
  · isplitl [HX]; · iexact HX
    isplitl [HO]; · iexact HO
    iexact Hlev
  iintro ⟨Hj, Hxr, Hz3, HO⟩
  iapply runs_ret
  iapply Hk
  iframe HO Hc4 Hw Hi Hxl Hz2 Hj Hxr Hz3

/-- What it takes to wait for transfer `j` to land, -/
abbrev toCome (j : Fin 5) : sProp 𝕄 := iprop(cred (tallyAt (cell c (.recv j)) () (N j)) ∗ atPos ER (cell c (.recv j)) 0 ∅ 0)
/-- and for its source. -/
abbrev toFree (j : Fin 5) : sProp 𝕄 := iprop(cred (tallyAt (cell c (.send j)) () (N j)) ∗ atPos ER (cell c (.send j)) 0 ∅ 0)

/-! What a wait hands over, by name. -/

theorem got0 : recvPay m 0 c ⊢ has c (slotX0 xrM) (sentX0 m (prv c)) := by unfold recvPay; exact BI.Entails.refl _
theorem got1 : recvPay m 1 c ⊢ has c (slotX1 xrM) (sentX1 m (nxt c)) := by unfold recvPay; exact BI.Entails.refl _
theorem got2 : recvPay m 2 c ⊢ has c (slotW0 wrM) (sentW m (prv c)) := by unfold recvPay; exact BI.Entails.refl _
theorem got3 : recvPay m 3 c ⊢ has c (slotW1 wrM) (sentW m (nxt c)) := by unfold recvPay; exact BI.Entails.refl _
theorem got4 : recvPay m 4 c ⊢ has c prM (sentP m (opp c)) := by unfold recvPay; exact BI.Entails.refl _
theorem back0 : sendPay m 0 c ⊢ has c (slotX0 xsM) (sentX0 m c) := by unfold sendPay; exact BI.Entails.refl _
theorem back1 : sendPay m 1 c ⊢ has c (slotX1 xsM) (sentX1 m c) := by unfold sendPay; exact BI.Entails.refl _
theorem back2 : sendPay m 2 c ⊢ hasL c wsM (sentW m c) := by unfold sendPay; exact BI.Entails.refl _
theorem back3 : sendPay m 3 c ⊢ hasR c wsM (sentW m c) := by unfold sendPay; exact BI.Entails.refl _
theorem back4 : sendPay m 4 c ⊢ has c psM (sentP m c) := by unfold sendPay; exact BI.Entails.refl _

theorem acc1_eq : acc1 m c = k0_pay6 (k0_pay4 (wAt m c)) (upX (xOwnAt m c)) (upX (sentX0 m (prv c))) (upW (sentW m (prv c))) := rfl
theorem acc2_eq : acc2 m c = k0_pay7 (acc1 m c) (upX (sentX1 m (nxt c))) (upW (sentW m (nxt c))) := rfl

theorem part6 {Q : FVec F S1024x2048 .f32 → sProp (MT nD τ sig Unit (Elt F) ℕ UU ℕ)} (v2 : BitVec 32) :
    iprop(records m K ∗ debt c [] ∗ toCome c 0 ∗ toCome c 2 ∗ has c (slotX1 xinM) (xOwnAt m c)
        ∗ ((debt c [] ∗ has c (slotX1 xinM) (xOwnAt m c)
            ∗ (semVal (cell c (.recv 0)) 0 ∗ has c (slotX0 xrM) (sentX0 m (prv c)))
            ∗ (semVal (cell c (.recv 2)) 0 ∗ has c (slotW0 wrM) (sentW m (prv c)))) -∗ Q (acc1 m c)))
      ⊢ runs c (k0_part6 xM (Memref.isWhole_whole _) wM (Memref.isWhole_whole _) sxM (Memref.isWhole_whole _) swM (Memref.isWhole_whole _) oM (Memref.isWhole_whole _) xinM (Memref.isWhole_whole _) winM (Memref.isWhole_whole _) wsM (Memref.isWhole_whole _) xsM (Memref.isWhole_whole _) psM (Memref.isWhole_whole _) xrM (Memref.isWhole_whole _) wrM (Memref.isWhole_whole _) prM (Memref.isWhole_whole _) localS sendS recvS v2 (k0_pay4 (wAt m c))) Q := by
  rw [k0_part6_eq_skeleton]; unfold k0_part6_skel
  simp only [Prog.lift, Prog.bind_op, Prog.bind_ret, Prog.pure_eq_ret]
  iintro ⟨#HR, HO, ⟨Hc0, Ha0⟩, ⟨Hc2, Ha2⟩, Hi, Hk⟩
  iapply (load_slot c (M := xinM) (r := rx1) (xOwnAt m c) (upX (xOwnAt m c)) shapeCasts_S1x1024x1024_S1024x1024 shapeCasts_S1024x1024_S1x1024x1024 rfl) $$ Hi
  iintro Hi
  iapply (wait_recv m K c 0 (tgt := slotX0 xrM) rfl) $$ [HO Hc0 Ha0]
  · isplitr; · iexact HR
    isplitl [Hc0]; · iexact Hc0
    isplitl [HO]; · iexact HO
    iexact Ha0
  iintro ⟨HO, Hv0, Hx⟩
  ihave Hx := (got0 m c) $$ Hx
  iapply (wait_recv m K c 2 (tgt := slotW0 wrM) rfl) $$ [HO Hc2 Ha2]
  · isplitr; · iexact HR
    isplitl [Hc2]; · iexact Hc2
    isplitl [HO]; · iexact HO
    iexact Ha2
  iintro ⟨HO, Hv2, Hw⟩
  ihave Hw := (got2 m c) $$ Hw
  iapply (load_slot c (M := xrM) (r := rx0) (sentX0 m (prv c)) (upX (sentX0 m (prv c))) shapeCasts_S1x1024x1024_S1024x1024 shapeCasts_S1024x1024_S1x1024x1024 rfl) $$ Hx
  iintro Hx
  iapply (load_slot c (M := wrM) (r := rw0) (sentW m (prv c)) (upW (sentW m (prv c))) shapeCasts_S1x1024x2048_S1024x2048 castsW rfl) $$ Hw
  iintro Hw
  iapply runs_ret
  iapply (Entails.of_eq (congrArg Q (acc1_eq m c)))
  iapply Hk
  iframe HO Hi Hv0 Hx Hv2 Hw

theorem part7 {Q : FVec F S1024x2048 .f32 → sProp (MT nD τ sig Unit (Elt F) ℕ UU ℕ)} (v2 : BitVec 32) :
    iprop(records m K ∗ debt c [] ∗ toCome c 1 ∗ toCome c 3
        ∗ ((debt c []
            ∗ (semVal (cell c (.recv 1)) 0 ∗ has c (slotX1 xrM) (sentX1 m (nxt c)))
            ∗ (semVal (cell c (.recv 3)) 0 ∗ has c (slotW1 wrM) (sentW m (nxt c)))) -∗ Q (acc2 m c)))
      ⊢ runs c (k0_part7 xM (Memref.isWhole_whole _) wM (Memref.isWhole_whole _) sxM (Memref.isWhole_whole _) swM (Memref.isWhole_whole _) oM (Memref.isWhole_whole _) xinM (Memref.isWhole_whole _) winM (Memref.isWhole_whole _) wsM (Memref.isWhole_whole _) xsM (Memref.isWhole_whole _) psM (Memref.isWhole_whole _) xrM (Memref.isWhole_whole _) wrM (Memref.isWhole_whole _) prM (Memref.isWhole_whole _) localS sendS recvS v2 (acc1 m c)) Q := by
  rw [k0_part7_eq_skeleton]; unfold k0_part7_skel
  simp only [Prog.lift, Prog.bind_op, Prog.bind_ret, Prog.pure_eq_ret]
  iintro ⟨#HR, HO, ⟨Hc0, Ha0⟩, ⟨Hc2, Ha2⟩, Hk⟩
  iapply (wait_recv m K c 1 (tgt := slotX1 xrM) rfl) $$ [HO Hc0 Ha0]
  · isplitr; · iexact HR
    isplitl [Hc0]; · iexact Hc0
    isplitl [HO]; · iexact HO
    iexact Ha0
  iintro ⟨HO, Hv0, Hx⟩
  ihave Hx := (got1 m c) $$ Hx
  iapply (wait_recv m K c 3 (tgt := slotW1 wrM) rfl) $$ [HO Hc2 Ha2]
  · isplitr; · iexact HR
    isplitl [Hc2]; · iexact Hc2
    isplitl [HO]; · iexact HO
    iexact Ha2
  iintro ⟨HO, Hv2, Hw⟩
  ihave Hw := (got3 m c) $$ Hw
  iapply (load_slot c (M := xrM) (r := rx1) (sentX1 m (nxt c)) (upX (sentX1 m (nxt c))) shapeCasts_S1x1024x1024_S1024x1024 shapeCasts_S1024x1024_S1x1024x1024 rfl) $$ Hx
  iintro Hx
  iapply (load_slot c (M := wrM) (r := rw1) (sentW m (nxt c)) (upW (sentW m (nxt c))) shapeCasts_S1x1024x2048_S1024x2048 castsW rfl) $$ Hw
  iintro Hw
  iapply runs_ret
  iapply (Entails.of_eq (congrArg Q (acc2_eq m c)))
  iapply Hk
  iframe HO Hv0 Hx Hv2 Hw

theorem part8 {Q : PUnit → sProp (MT nD τ sig Unit (Elt F) ℕ UU ℕ)} :
    iprop(records m K ∗ debt c [] ∗ toCome c 4 ∗ toFree c 0 ∗ toFree c 1
        ∗ ((sxM.view.loc (c : Thread nD τ) ↦{fullShare} sxAt m c) ∗ (swM.view.loc (c : Thread nD τ) ↦{fullShare} swAt m c)) ∗ free c oM
        ∗ ((debt c [] ∗ ((sxM.view.loc (c : Thread nD τ) ↦{fullShare} sxAt m c) ∗ (swM.view.loc (c : Thread nD τ) ↦{fullShare} swAt m c))
            ∗ has c oM (outAt m c)
            ∗ (semVal (cell c (.recv 4)) 0 ∗ has c prM (sentP m (opp c)))
            ∗ (semVal (cell c (.send 0)) 0 ∗ has c (slotX0 xsM) (sentX0 m c))
            ∗ (semVal (cell c (.send 1)) 0 ∗ has c (slotX1 xsM) (sentX1 m c))) -∗ Q ⟨⟩))
      ⊢ runs c (k0_part8 xM (Memref.isWhole_whole _) wM (Memref.isWhole_whole _) sxM (Memref.isWhole_whole _) swM (Memref.isWhole_whole _) oM (Memref.isWhole_whole _) xinM (Memref.isWhole_whole _) winM (Memref.isWhole_whole _) wsM (Memref.isWhole_whole _) xsM (Memref.isWhole_whole _) psM (Memref.isWhole_whole _) xrM (Memref.isWhole_whole _) wrM (Memref.isWhole_whole _) prM (Memref.isWhole_whole _) localS sendS recvS (acc2 m c)) Q := by
  rw [k0_part8_eq_skeleton]; unfold k0_part8_skel
  simp only [smemLoad, Prog.lift, Prog.bind_op, Prog.bind_ret, Prog.pure_eq_ret]
  iintro ⟨#HR, HO, ⟨Hc4, Ha4⟩, ⟨Hc0, Ha0⟩, ⟨Hc1, Ha1⟩, ⟨Hsx, Hsw⟩, ⟨%X, Ho⟩, Hk⟩
  iapply (wait_recv m K c 4 (tgt := prM) rfl) $$ [HO Hc4 Ha4]
  · isplitr; · iexact HR
    isplitl [Hc4]; · iexact Hc4
    isplitl [HO]; · iexact HO
    iexact Ha4
  iintro ⟨HO, Hv4, Hp⟩
  ihave Hp := (got4 m c) $$ Hp
  iapply (load_whole c (M := prM) (sentP m (opp c))) $$ Hp
  iintro Hp
  iapply (load_scale c (M := sxM) (f := sxAt m c)) $$ Hsx
  iintro Hsx
  iapply (load_scale c (M := swM) (f := swAt m c)) $$ Hsw
  iintro Hsw
  iapply (load_whole c (M := oM) X) $$ Ho
  iintro Ho
  iapply (store_whole c (M := oM) X) $$ Ho
  iintro Ho
  iapply (wait_send m K c 0 (tgt := slotX0 xsM) rfl) $$ [HO Hc0 Ha0]
  · isplitr; · iexact HR
    isplitl [Hc0]; · iexact Hc0
    isplitl [HO]; · iexact HO
    iexact Ha0
  iintro ⟨HO, Hv0, Hx0⟩
  ihave Hx0 := (back0 m c) $$ Hx0
  iapply (wait_send m K c 1 (tgt := slotX1 xsM) rfl) $$ [HO Hc1 Ha1]
  · isplitr; · iexact HR
    isplitl [Hc1]; · iexact Hc1
    isplitl [HO]; · iexact HO
    iexact Ha1
  iintro ⟨HO, Hv1, Hx1⟩
  ihave Hx1 := (back1 m c) $$ Hx1
  iapply runs_ret
  iapply Hk
  iframe HO Hsx Hsw Hv4 Hp Hv0 Hx0 Hv1 Hx1
  iexact Ho

end Cert.Scatter

end
-- ==== Proof.Body.lean ====
/- THE BODY. The eight parts and the last waits in order: what device `c` holds when the kernel starts, and what it holds
   when the kernel is done. -/
module

public import proofs.«01_k».proof.Proof.Parts

@[expose] public section

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-! ## A stack of two blocks as its two slots -/

section Stack
variable {s s' : Shape} {e : EltTy} (M : Memref sig .tc .vmem s e) (r r' : Rect s) (hr : ∀ a, r.stride a = 1) (hr' : ∀ a, r'.stride a = 1)
  (hq : r.shape.Squeezes s') (hq' : r'.shape.Squeezes s')

omit [FloatOps F] in
theorem stack_union (hu : r.set ∪ r'.set = Finset.univ) :
    ((M.slice r hr).squeeze s' hq).view.set ∪ ((M.slice r' hr').squeeze s' hq').view.set = M.view.set := by
  rw [slot_set, slot_set]
  show (M.view.slice r).set ∪ (M.view.slice r').set = _
  rw [View.set_slice, View.set_slice, ← Finset.map_union, hu]; rfl

omit [FloatOps F] in
theorem stack_disjoint (hd : Disjoint r.set r'.set) :
    Disjoint ((M.slice r hr).squeeze s' hq).view.set ((M.slice r' hr').squeeze s' hq').view.set := by
  rw [slot_set, slot_set]
  show Disjoint (M.view.slice r).set (M.view.slice r').set
  rw [View.set_slice, View.set_slice]
  exact (Finset.disjoint_map _).mpr hd

/-- Two slots that make up the stack are held when the stack is, -/
theorem unstack (hd : Disjoint r.set r'.set) (hu : r.set ∪ r'.set = Finset.univ) :
    free (F := F) c M ⊢ iprop(free c ((M.slice r hr).squeeze s' hq) ∗ free c ((M.slice r' hr').squeeze s' hq')) := by
  iintro ⟨%X, H⟩
  ihave H := (owns_open c M) $$ H
  icases H with ⟨%f, %hf, H⟩
  rw [← stack_union M r r' hr hr' hq hq' hu]
  ihave H := (pointsTo_union (stack_disjoint M r r' hr hr' hq hq' hd)).1 $$ H
  icases H with ⟨H, H'⟩
  isplitl [H]
  · iexists (((M.slice r hr).squeeze s' hq).view.read (Elt F) f)
    iapply (owns_at c ((M.slice r hr).squeeze s' hq) f rfl) $$ H
  · iexists (((M.slice r' hr').squeeze s' hq').view.read (Elt F) f)
    iapply (owns_at c ((M.slice r' hr').squeeze s' hq') f rfl) $$ H'

/-- and the other way round. -/
theorem restack (hd : Disjoint r.set r'.set) (hu : r.set ∪ r'.set = Finset.univ) :
    iprop(free (F := F) c ((M.slice r hr).squeeze s' hq) ∗ free c ((M.slice r' hr').squeeze s' hq')) ⊢ free c M := by
  iintro ⟨⟨%X, H⟩, ⟨%Y, H'⟩⟩
  ihave H := (owns_open c _) $$ H
  icases H with ⟨%f, %hf, H⟩
  ihave H' := (owns_open c _) $$ H'
  icases H' with ⟨%g, %hg, H'⟩
  ihave H := (pointsTo_join (ℓ := M.view.loc (c : Thread nD τ)) (I := ((M.slice r hr).squeeze s' hq).view.set) (J := ((M.slice r' hr').squeeze s' hq').view.set) (stack_disjoint M r r' hr hr' hq hq' hd)) $$ [H H']
  · isplitl [H]; · iexact H
    iexact H'
  rw [stack_union M r r' hr hr' hq hq' hu]
  iexists (M.view.read (Elt F) _)
  iapply (owns_at c M _ rfl) $$ H

end Stack

theorem rx_disjoint : Disjoint rx0.set rx1.set := Finset.disjoint_left.mpr fun i h h' => by
  have h0 := (Rect.mem_set_unit.mp h) 0
  have h1 := (Rect.mem_set_unit.mp h') 0
  simp at h0 h1; omega
theorem rx_union : rx0.set ∪ rx1.set = Finset.univ := Finset.eq_univ_iff_forall.mpr fun i => by
  have b0 := (i 0).isLt; have b1 := (i 1).isLt; have b2 := (i 2).isLt
  rw [Finset.mem_union]
  by_cases h : (i 0).val = 0
  · refine Or.inl (Rect.mem_set_unit.mpr fun a => ?_)
    fin_cases a <;> simp at b0 b1 b2 ⊢ <;> omega
  · refine Or.inr (Rect.mem_set_unit.mpr fun a => ?_)
    fin_cases a <;> simp at b0 b1 b2 ⊢ <;> omega
theorem rw_disjoint : Disjoint rw0.set rw1.set := Finset.disjoint_left.mpr fun i h h' => by
  have h0 := (Rect.mem_set_unit.mp h) 0
  have h1 := (Rect.mem_set_unit.mp h') 0
  simp at h0 h1; omega
theorem rw_union : rw0.set ∪ rw1.set = Finset.univ := Finset.eq_univ_iff_forall.mpr fun i => by
  have b0 := (i 0).isLt; have b1 := (i 1).isLt; have b2 := (i 2).isLt
  rw [Finset.mem_union]
  by_cases h : (i 0).val = 0
  · refine Or.inl (Rect.mem_set_unit.mpr fun a => ?_)
    fin_cases a <;> simp at b0 b1 b2 ⊢ <;> omega
  · refine Or.inr (Rect.mem_set_unit.mpr fun a => ?_)
    fin_cases a <;> simp at b0 b1 b2 ⊢ <;> omega

section
variable {e : EltTy}
theorem unstackX (M : Memref sig .tc .vmem S2x1024x1024 e) : free (F := F) c M ⊢ iprop(free c (slotX0 M) ∗ free c (slotX1 M)) :=
  unstack c M rx0 rx1 _ _ _ _ rx_disjoint rx_union
theorem restackX (M : Memref sig .tc .vmem S2x1024x1024 e) : iprop(free (F := F) c (slotX0 M) ∗ free c (slotX1 M)) ⊢ free c M :=
  restack c M rx0 rx1 _ _ _ _ rx_disjoint rx_union
theorem unstackW (M : Memref sig .tc .vmem S2x1024x2048 e) : free (F := F) c M ⊢ iprop(free c (slotW0 M) ∗ free c (slotW1 M)) :=
  unstack c M rw0 rw1 _ _ _ _ rw_disjoint rw_union
theorem restackW (M : Memref sig .tc .vmem S2x1024x2048 e) : iprop(free (F := F) c (slotW0 M) ∗ free c (slotW1 M)) ⊢ free c M :=
  restack c M rw0 rw1 _ _ _ _ rw_disjoint rw_union
end

/-! ## What a device starts from and ends with -/

/-- The right to make each payment device `c` makes: its three signals, -/
def sigToks : sProp (MT nD τ sig Unit (Elt F) ℕ UU ℕ) :=
  iprop(dutyTok ER (cell (nxt c) .bar) 0 0 ∗ dutyTok ER (cell (opp c) .bar) 0 1 ∗ dutyTok ER (cell (prv c) .bar) 0 2)
/-- and its transfers, each at the receiver's end -/
def recvToks : sProp (MT nD τ sig Unit (Elt F) ℕ UU ℕ) :=
  iprop(dutyTok ER (cell (nxt c) (.recv 0)) 0 0 ∗ dutyTok ER (cell (prv c) (.recv 1)) 0 0 ∗ dutyTok ER (cell (nxt c) (.recv 2)) 0 0
    ∗ dutyTok ER (cell (prv c) (.recv 3)) 0 0 ∗ dutyTok ER (cell (opp c) (.recv 4)) 0 0)
/-- and at its own. -/
def sendToks : sProp (MT nD τ sig Unit (Elt F) ℕ UU ℕ) :=
  iprop(dutyTok ER (cell c (.send 0)) 0 0 ∗ dutyTok ER (cell c (.send 1)) 0 0 ∗ dutyTok ER (cell c (.send 2)) 0 0
    ∗ dutyTok ER (cell c (.send 3)) 0 0 ∗ dutyTok ER (cell c (.send 4)) 0 0)
/-- Something of each of the device's shared semaphores. -/
def each (P : Cell → sProp (MT nD τ sig Unit (Elt F) ℕ UU ℕ)) : sProp (MT nD τ sig Unit (Elt F) ℕ UU ℕ) :=
  iprop(P .bar ∗ (P (.recv 0) ∗ P (.recv 1) ∗ P (.recv 2) ∗ P (.recv 3) ∗ P (.recv 4))
    ∗ P (.send 0) ∗ P (.send 1) ∗ P (.send 2) ∗ P (.send 3) ∗ P (.send 4))
/-- What others will pay device `c`. -/
def credits : sProp (MT nD τ sig Unit (Elt F) ℕ UU ℕ) :=
  iprop(cred (tallyAt (cell c .bar) () 3) ∗ cred (tallyAt (cell c (.recv 0)) () (N 0)) ∗ cred (tallyAt (cell c (.recv 1)) () (N 1))
    ∗ cred (tallyAt (cell c (.recv 2)) () (N 2)) ∗ cred (tallyAt (cell c (.recv 3)) () (N 3)) ∗ cred (tallyAt (cell c (.recv 4)) () (N 4)))
/-- The semaphores of the copies that stay on the device, at zero. -/
def zeros : sProp (MT nD τ sig Unit (Elt F) ℕ UU ℕ) :=
  iprop(zero c (sem0 localS) ∗ zero c (sem1 localS) ∗ zero c (sem2 localS) ∗ zero c (sem3 localS) ∗ zero c (sem4 localS))
/-- The device's working buffers, with some contents, -/
def buffers : sProp (MT nD τ sig Unit (Elt F) ℕ UU ℕ) :=
  iprop(free c xinM ∗ free c winM ∗ free c wsM ∗ free c xsM ∗ free c psM ∗ free c xrM ∗ free c wrM ∗ free c prM)
/-- its `x` and `w`, -/
def inputs : sProp 𝕄 := iprop(xPts m c fullShare ∗ wPts m c)
/-- and the two scales. -/
def scales : sProp 𝕄 :=
  iprop((sxM.view.loc (c : Thread nD τ) ↦{fullShare} sxAt m c) ∗ (swM.view.loc (c : Thread nD τ) ↦{fullShare} swAt m c))

theorem runs_bind {α β : Type} (p : Prog (TpuEff nD τ sig (Elt F) Λ₀ .tc) α) (k : α → Prog (TpuEff nD τ sig (Elt F) Λ₀ .tc) β)
    (Q : β → sProp (MT nD τ sig Unit (Elt F) ℕ UU ℕ)) : runs c p (fun a => runs c (k a) Q) ⊢ runs c (p >>= k) Q := by
  unfold runs; rw [wp_bind]

/-- The last waits: the rounded `w` and the rounded partial product are free again. -/
theorem part9 {Q : PUnit → sProp (MT nD τ sig Unit (Elt F) ℕ UU ℕ)} {h1 h2 h3 h4 h5 h6} :
    iprop(records m K ∗ debt c [] ∗ toFree c 2 ∗ toFree c 3 ∗ toFree c 4
        ∗ ((debt c [] ∗ (semVal (cell c (.send 2)) 0 ∗ semVal (cell c (.send 3)) 0 ∗ semVal (cell c (.send 4)) 0)
            ∗ free c wsM ∗ free c psM) -∗ Q ⟨⟩))
      ⊢ runs c (.op (.waitDma2 (sem1 sendS) (slotW0 wrM) wsM h1 h2) fun _ => .op (.waitDma2 (sem3 sendS) (slotW1 wrM) wsM h3 h4) fun _ =>
          .op (.waitDma2 (sem4 sendS) prM psM h5 h6) fun _ => .ret ⟨⟩) Q := by
  iintro ⟨#HR, HO, ⟨Hc2, Ha2⟩, ⟨Hc3, Ha3⟩, ⟨Hc4, Ha4⟩, Hk⟩
  iapply (wait_send m K c 2 (tgt := wsM) rfl) $$ [HO Hc2 Ha2]
  · isplitr; · iexact HR
    isplitl [Hc2]; · iexact Hc2
    isplitl [HO]; · iexact HO
    iexact Ha2
  iintro ⟨HO, Hv2, Hl⟩
  ihave Hl := (back2 m c) $$ Hl
  iapply (wait_send m K c 3 (tgt := wsM) rfl) $$ [HO Hc3 Ha3]
  · isplitr; · iexact HR
    isplitl [Hc3]; · iexact Hc3
    isplitl [HO]; · iexact HO
    iexact Ha3
  iintro ⟨HO, Hv3, Hr⟩
  ihave Hr := (back3 m c) $$ Hr
  iapply (wait_send m K c 4 (tgt := psM) rfl) $$ [HO Hc4 Ha4]
  · isplitr; · iexact HR
    isplitl [Hc4]; · iexact Hc4
    isplitl [HO]; · iexact HO
    iexact Ha4
  iintro ⟨HO, Hv4, Hp⟩
  ihave Hp := (back4 m c) $$ Hp
  ihave Hw := (owns_halves (c : Thread nD τ) wsM fullShare (sentW m c)).2 $$ [Hl Hr]
  · isplitl [Hl]; · iexact Hl
    iexact Hr
  iapply runs_ret
  iapply Hk
  iframe HO Hv2 Hv3 Hv4
  isplitl [Hw]; · iexists _; iexact Hw
  iexists _; iexact Hp

/-- THE BODY. From its rights, positions and buffers, device `c` runs the kernel: it pays all it owes, closes every
    semaphore, has its buffers back, and its block of the result is computed. -/
theorem body {Q : PUnit → sProp (MT nD τ sig Unit (Elt F) ℕ UU ℕ)} :
    iprop(records m K ∗ levAts L lv ∗ debt c (dues c) ∗ (sigToks c ∗ recvToks c ∗ sendToks c)
        ∗ each (fun k => atPos ER (cell c k) 0 ∅ 0) ∗ credits c ∗ zeros c ∗ inputs m c ∗ buffers c ∗ scales m c ∗ free c oM
        ∗ ((debt c [] ∗ each (fun k => semVal (cell c k) 0) ∗ zeros c ∗ inputs m c ∗ buffers c ∗ scales m c ∗ has c oM (outAt m c)) -∗ Q ⟨⟩))
      ⊢ runs c (cc0_body xM (Memref.isWhole_whole _) wM (Memref.isWhole_whole _) sxM (Memref.isWhole_whole _) swM (Memref.isWhole_whole _) oM (Memref.isWhole_whole _) xinM (Memref.isWhole_whole _) winM (Memref.isWhole_whole _) wsM (Memref.isWhole_whole _) xsM (Memref.isWhole_whole _) psM (Memref.isWhole_whole _) xrM (Memref.isWhole_whole _) wrM (Memref.isWhole_whole _) prM (Memref.isWhole_whole _) localS sendS recvS) Q := by
  rw [cc0_body_eq_skeleton]; unfold cc0_body_skel
  unfold sigToks recvToks sendToks each credits zeros inputs buffers scales
  iintro ⟨#HR, #Hlev, HO, ⟨Hsig, ⟨Hr0, Hr1, Hr2, Hr3, Hr4⟩, ⟨Hs0, Hs1, Hs2, Hs3, Hs4⟩⟩,
    ⟨Hab, ⟨Har0, Har1, Har2, Har3, Har4⟩, ⟨Has0, Has1, Has2, Has3, Has4⟩⟩, ⟨Hcb, Hc0, Hc1, Hc2, Hc3, Hc4⟩, ⟨Hz0, Hz1, Hz2, Hz3, Hz4⟩,
    ⟨Hx, Hw⟩, ⟨Bxin, Bwin, Bws, Bxs, Bps, Bxr, Bwr, Bpr⟩, Hsc, Ho, Hk⟩
  ihave Bxin := (unstackX c xinM) $$ Bxin
  icases Bxin with ⟨Bi0, Bi1⟩
  ihave Bxs := (unstackX c xsM) $$ Bxs
  icases Bxs with ⟨Bs0, Bs1⟩
  ihave Bxr := (unstackX c xrM) $$ Bxr
  icases Bxr with ⟨Bx0, Bx1⟩
  ihave Bwr := (unstackW c wrM) $$ Bwr
  icases Bwr with ⟨Bw0, Bw1⟩
  ihave Hx := (pointsTo_share (PosShare.mem_left_op_right fullShare)).1 $$ Hx
  icases Hx with ⟨Hxl, Hxr⟩
  iapply (runs_bind c)
  iapply (part1 m c)
  iframe Hw Bwin Hz4 Hxl Bi0 Hz0 Hxr Bi1 Hz1
  iintro %v2 %v5 %v7 %v9 ⟨FW, F0, F1⟩
  dsimp only
  iapply (runs_bind c)
  iapply (part2 m K c)
  isplitr; · iexact HR
  isplitr; · iexact Hlev
  iframe HO Hsig Bx0 Bw0 Bx1 Bw1 Bpr Hcb Hab F0 Bs0
  iintro ⟨HO, Vb, ⟨⟨P1x, P1w⟩, Pp, ⟨P0x, P0w⟩⟩, Hi0, Hxl, Hz0, Hs0x⟩
  iapply (runs_bind c)
  iapply (part3 m K c)
  isplitr; · iexact HR
  isplitr; · iexact Hlev
  iframe HO Hs0 Hr0 Hs0x P0x Hs1 Hr1 Bs1 P1x F1 FW
  iintro ⟨HO, Cs0, Cs1, ⟨Hi1, Hxr, Hz1⟩, ⟨Hwi, Hw, Hz4⟩⟩
  iapply (runs_bind c)
  iapply (part4 m K c)
  isplitr; · iexact HR
  iframe HO Hs2 Hr2 P0w Hs3 Hr3 P1w Hwi Bws Hxl Hz2
  isplitl [Hi0]; · iexists _; iexact Hi0
  iintro ⟨HO, Cs2, Cs3, Hwi, F2⟩
  iapply (runs_bind c)
  iapply (part5 m K c)
  isplitr; · iexact HR
  isplitr; · iexact Hlev
  iframe HO Hs4 Hr4 Bps Pp Hwi F2 Hxr Hz3
  isplitl [Hi1]; · iexists _; iexact Hi1
  iintro ⟨HO, Cs4, Hwi, ⟨Hi0, Hxl, Hz2⟩, ⟨Hi1, Hxr, Hz3⟩⟩
  iapply (runs_bind c)
  iapply (part6 m K c)
  isplitr; · iexact HR
  iframe HO Hc0 Har0 Hc2 Har2 Hi1
  iintro ⟨HO, Hi1, ⟨Vr0, X0⟩, ⟨Vr2, W0⟩⟩
  iapply (runs_bind c)
  iapply (part7 m K c)
  isplitr; · iexact HR
  iframe HO Hc1 Har1 Hc3 Har3
  iintro ⟨HO, ⟨Vr1, X1⟩, ⟨Vr3, W1⟩⟩
  iapply (runs_bind c)
  iapply (part8 m K c)
  isplitr; · iexact HR
  iframe HO Hc4 Har4 Cs0 Has0 Cs1 Has1 Hsc Ho
  iintro ⟨HO, Hsc, Ho, ⟨Vr4, Pr⟩, ⟨Vs0, S0⟩, ⟨Vs1, S1⟩⟩
  simp only [Prog.lift, Prog.bind_op, Prog.bind_ret, Prog.pure_eq_ret]
  iapply (part9 m K c)
  isplitr; · iexact HR
  iframe HO Cs2 Has2 Cs3 Has3 Cs4 Has4
  iintro ⟨HO, ⟨Vs2, Vs3, Vs4⟩, Bws, Bps⟩
  ihave Bxin := (restackX c xinM) $$ [Hi0 Hi1]
  · isplitl [Hi0]; · iexists _; iexact Hi0
    iexists _; iexact Hi1
  ihave Bxs := (restackX c xsM) $$ [S0 S1]
  · isplitl [S0]; · iexists _; iexact S0
    iexists _; iexact S1
  ihave Bxr := (restackX c xrM) $$ [X0 X1]
  · isplitl [X0]; · iexists _; iexact X0
    iexists _; iexact X1
  ihave Bwr := (restackW c wrM) $$ [W0 W1]
  · isplitl [W0]; · iexists _; iexact W0
    iexists _; iexact W1
  ihave Hx := (pointsTo_share (PosShare.mem_left_op_right fullShare)).2 $$ [Hxl Hxr]
  · isplitl [Hxl]; · iexact Hxl
    iexact Hxr
  iapply Hk
  iframe HO Vb Vr0 Vr1 Vr2 Vr3 Vr4 Vs0 Vs1 Vs2 Vs3 Vs4 Hz0 Hz1 Hz2 Hz3 Hz4 Hx Hw Bxin Bws Bxs Bps Bxr Bwr Hsc Ho
  isplitl [Hwi]; · iexists _; iexact Hwi
  iexists _; iexact Pr

end Cert.Scatter

end
-- ==== Proof.Deal.lean ====
/- WHAT EACH DEVICE IS DEALT AT LAUNCH. The rounds of the shared semaphores start, every payment's right goes to the
   device that makes it, and every device is credited with what the others owe it. -/
module

public import proofs.«01_k».proof.Proof.Body

@[expose] public section

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The kernel's semaphores -/

/-- The kernel's own semaphores: those of the copies on the device, those of sending, those of receiving. -/
abbrev osem : Fin 3 × Fin 5 → SemLoc sig
  | (0, 0) => .dma (sem0 localS) | (0, 1) => .dma (sem1 localS) | (0, 2) => .dma (sem2 localS) | (0, 3) => .dma (sem3 localS) | (0, 4) => .dma (sem4 localS)
  | (1, j) => .dma (recvSem j)
  | (2, j) => .dma (sendSem j)

theorem ownSemFacts : Pipeline.OwnSemFacts cfg0.spec osem := by decide

/-- Something of every shared semaphore, taken together or one by one. -/
theorem each_of (P : Cell → sProp 𝕄) : bigSep Finset.univ P ⊢ each P := by
  rw [bigSep_univ_eq_bigSepL allCells (by decide) (by decide)]
  unfold allCells each
  show iprop(P .bar ∗ P (.recv 0) ∗ P (.recv 1) ∗ P (.recv 2) ∗ P (.recv 3) ∗ P (.recv 4)
    ∗ P (.send 0) ∗ P (.send 1) ∗ P (.send 2) ∗ P (.send 3) ∗ P (.send 4)) ⊢ _
  iintro ⟨Hb, H0, H1, H2, H3, H4, HS⟩
  iframe Hb H0 H1 H2 H3 H4 HS
theorem of_each (P : Cell → sProp 𝕄) : each P ⊢ bigSep Finset.univ P := by
  rw [bigSep_univ_eq_bigSepL allCells (by decide) (by decide)]
  unfold allCells each
  show _ ⊢ iprop(P .bar ∗ P (.recv 0) ∗ P (.recv 1) ∗ P (.recv 2) ∗ P (.recv 3) ∗ P (.recv 4)
    ∗ P (.send 0) ∗ P (.send 1) ∗ P (.send 2) ∗ P (.send 3) ∗ P (.send 4))
  iintro ⟨Hb, ⟨H0, H1, H2, H3, H4⟩, HS⟩
  iframe Hb H0 H1 H2 H3 H4 HS

abbrev ownSems (c : Dev nD) : sProp 𝕄 :=
  Pipeline.ownSems0 (Ix := Unit) (Name := ℕ) (U := UU) (Lvl := ℕ) (Val := Elt F) (τ := τ) osem c

theorem ownSems_eq (c : Dev nD) : (ownSems c : sProp 𝕄)
    = iprop(zero c (sem0 localS) ∗ zero c (sem1 localS) ∗ zero c (sem2 localS) ∗ zero c (sem3 localS) ∗ zero c (sem4 localS)
      ∗ semVal (cell c (.recv 0)) 0 ∗ semVal (cell c (.recv 1)) 0 ∗ semVal (cell c (.recv 2)) 0 ∗ semVal (cell c (.recv 3)) 0 ∗ semVal (cell c (.recv 4)) 0
      ∗ semVal (cell c (.send 0)) 0 ∗ semVal (cell c (.send 1)) 0 ∗ semVal (cell c (.send 2)) 0 ∗ semVal (cell c (.send 3)) 0 ∗ semVal (cell c (.send 4)) 0) := by
  unfold ownSems
  rw [Pipeline.ownSems0_eq_of_list c osem [(0, 0), (0, 1), (0, 2), (0, 3), (0, 4), (1, 0), (1, 1), (1, 2), (1, 3), (1, 4), (2, 0), (2, 1), (2, 2), (2, 3), (2, 4)]
    (by decide) (by decide)]; rfl
/-- The barrier is the one semaphore that is not the kernel's own. -/
theorem unscopedSems0_eq (c : Dev nD) : (unscopedSems0 c : sProp 𝕄) = semVal (cell c .bar) 0 := by
  unfold unscopedSems0; rw [bigSep_eq_bigSepL_of_eq [SemLoc.reg barS] (by decide) (by decide)]; rfl

/-- All semaphores at zero: the shared ones and the others. -/
theorem sems_deal (c : Dev nD) : iprop(ownSems c ∗ unscopedSems0 c) ⊢ (iprop(each (fun k => semVal (cell c k) 0) ∗ zeros c) : sProp 𝕄) := by
  rw [ownSems_eq, unscopedSems0_eq]
  unfold each zeros
  iintro ⟨⟨Z0, Z1, Z2, Z3, Z4, R0, R1, R2, R3, R4, HS⟩, HB⟩
  iframe HB R0 R1 R2 R3 R4 HS Z0 Z1 Z2 Z3 Z4
theorem sems_collect (c : Dev nD) : (iprop(each (fun k => semVal (cell c k) 0) ∗ zeros c) : sProp 𝕄) ⊢ iprop(unscopedSems0 c ∗ ownSems c) := by
  rw [ownSems_eq, unscopedSems0_eq]
  unfold each zeros
  iintro ⟨⟨HB, ⟨R0, R1, R2, R3, R4⟩, HS⟩, Z0, Z1, Z2, Z3, Z4⟩
  iframe HB R0 R1 R2 R3 R4 HS Z0 Z1 Z2 Z3 Z4

/-! ## The launch element -/

abbrev cellAt (ck : Dev nD × Cell) : GSem nD τ sig := cell ck.1 ck.2
theorem cellAt_inj : Function.Injective (cellAt : Dev nD × Cell → GSem nD τ sig) :=
  fun _ _ h => Prod.ext (cell_inj h).1 (cell_inj h).2
def cells : Finset (GSem nD τ sig) := Finset.univ.map ⟨cellAt, cellAt_inj⟩

/-- The right to each payment, by the device that makes it: its signals, its transfers at the far end, at its own end. -/
abbrev Pay : Type := Fin 3 ⊕ (Fin 5 ⊕ Fin 5)
def tokOf : Dev nD × Pay → GSem nD τ sig × ℕ × Fin 3
  | (c, .inl j) => (cell (sigTo j c) .bar, 0, j)
  | (c, .inr (.inl j)) => (cell (dst j c) (.recv j), 0, 0)
  | (c, .inr (.inr j)) => (cell c (.send j), 0, 0)

theorem tokOf_inj : Function.Injective tokOf := by
  rintro ⟨c, p⟩ ⟨d, q⟩ h
  rcases p with j | j | j <;> rcases q with i | i | i <;>
    obtain ⟨h1, h2⟩ := cell_inj (congrArg (·.1) h) <;> cases h2
  · have hj : j = i := congrArg (·.2.2) h
    subst hj
    rw [← sigFrm_sigTo j c, h1, sigFrm_sigTo]
  · rw [← frm_dst j c, h1, frm_dst]
  · cases h1; rfl
def toks : Finset (GSem nD τ sig × ℕ × Fin 3) := Finset.univ.map ⟨tokOf, tokOf_inj⟩

def u₀ : UU :=
  (initOf (Pipeline.cells cfgs cellOf_inj) (Pipeline.launchToks cfgs cellOf_inj), (initOf cells toks, 1))

variable (m : (ℓ : Loc nD τ sig) → Buf (Elt F) ℓ)

/-- The rights device `c` pays with. -/
def rights (c : Dev nD) : sProp (MT nD τ sig Unit (Elt F) ℕ UU ℕ) := iprop(sigToks c ∗ recvToks c ∗ sendToks c)

/-- What the launch element deals device `c`. -/
def G (c : Dev nD) : sProp 𝕄 :=
  iprop((bigSep Finset.univ fun k : Cell => roundState ER (sched m) (cell c k) 0)
    ∗ (bigSep Finset.univ fun k : Cell => reached ER (cell c k) 0) ∗ (bigSep Finset.univ fun k : Cell => atPos ER (cell c k) 0 ∅ 0) ∗ rights c)

theorem over_cells (Φ : GSem nD τ sig → sProp 𝕄) :
    bigSep cells Φ = bigSep Finset.univ fun c : Dev nD => bigSep Finset.univ fun k : Cell => Φ (cell c k) := by
  unfold cells; rw [bigSep_map, bigSep_univ_prod]; rfl

theorem over_toks : bigSep toks (fun x => (dutyTok ER x.1 x.2.1 x.2.2 : sProp 𝕄)) ⊢ bigSep Finset.univ fun c : Dev nD => rights c := by
  unfold toks; rw [bigSep_map, bigSep_univ_prod]
  refine bigSep_mono fun c _ => ?_
  rw [bigSep_univ_eq_bigSepL [.inl 0, .inl 1, .inl 2, .inr (.inl 0), .inr (.inl 1), .inr (.inl 2), .inr (.inl 3), .inr (.inl 4),
    .inr (.inr 0), .inr (.inr 1), .inr (.inr 2), .inr (.inr 3), .inr (.inr 4)] (by decide) (by decide)]
  unfold rights sigToks recvToks sendToks
  show iprop(dutyTok ER (cell (nxt c) .bar) 0 0 ∗ dutyTok ER (cell (opp c) .bar) 0 1 ∗ dutyTok ER (cell (prv c) .bar) 0 2
    ∗ dutyTok ER (cell (nxt c) (.recv 0)) 0 0 ∗ dutyTok ER (cell (prv c) (.recv 1)) 0 0 ∗ dutyTok ER (cell (nxt c) (.recv 2)) 0 0
    ∗ dutyTok ER (cell (prv c) (.recv 3)) 0 0 ∗ dutyTok ER (cell (opp c) (.recv 4)) 0 0
    ∗ dutyTok ER (cell c (.send 0)) 0 0 ∗ dutyTok ER (cell c (.send 1)) 0 0 ∗ dutyTok ER (cell c (.send 2)) 0 0
    ∗ dutyTok ER (cell c (.send 3)) 0 0 ∗ dutyTok ER (cell c (.send 4)) 0 0) ⊢ _
  iintro ⟨B0, B1, B2, R0, R1, R2, R3, R4, HS⟩
  iframe B0 B1 B2 R0 R1 R2 R3 R4 HS

theorem fund_cells : BI.own (ER (initOf cells toks)) ⊢ (|==> bigSep Finset.univ (G m) : sProp 𝕄) := by
  iintro HX
  imod (Rounds.fund ER (sched m) cells toks) $$ HX with ⟨Hst, Hr, Hat, Htok⟩
  imodintro
  ihave Hst := (Entails.of_eq (over_cells fun g => roundState ER (sched m) g 0)) $$ Hst
  ihave Hr := (Entails.of_eq (over_cells (F := F) fun g => reached ER g 0)) $$ Hr
  ihave Hat := (Entails.of_eq (over_cells (F := F) fun g => atPos ER g 0 ∅ 0)) $$ Hat
  ihave Htok := (over_toks (F := F)) $$ Htok
  unfold G; simp only [bigSep_sep']
  iframe Hst Hr Hat Htok

/-! ## The invariants -/

/-- What device `c` starts from: the invariants of all shared semaphores, its positions, its rights, its own semaphores. -/
def G' (c : Dev nD) : sProp 𝕄 :=
  iprop(∃ K, records m K ∗ each (fun k => atPos ER (cell c k) 0 ∅ 0) ∗ rights c ∗ zeros c)

/-- One device's shared semaphores get their invariants. -/
theorem core_alloc (c : Dev nD) :
    iprop(ownSems c ∗ unscopedSems0 c ∗ G m c)
      ⊢ |={Set.univ}=> iprop((bigSep Finset.univ fun k : Cell => iprop(∃ κ : ℕ, cellInv ER (sched m) κ (cell c k)))
          ∗ (bigSep Finset.univ fun k : Cell => reached ER (cell c k) 0) ∗ each (fun k => atPos ER (cell c k) 0 ∅ 0) ∗ rights c ∗ zeros c) := by
  unfold G
  iintro ⟨Hos, Hus, Hst, Hr, Hat, Htok⟩
  ihave Hv := (sems_deal (F := F) c) $$ [Hos Hus]
  · iframe Hos Hus
  icases Hv with ⟨Hv, Hz⟩
  ihave Hv := (of_each (F := F) fun k => semVal (cell c k) 0) $$ Hv
  ihave Hat := (each_of (F := F) fun k => atPos ER (cell c k) 0 ∅ 0) $$ Hat
  imod (show iprop((bigSep Finset.univ fun k : Cell => semVal (cell c k) 0) ∗ bigSep Finset.univ fun k : Cell => roundState ER (sched m) (cell c k) 0)
      ⊢ (|={Set.univ}=> bigSep Finset.univ fun k : Cell => iprop(∃ κ : ℕ, cellInv ER (sched m) κ (cell c k)) : sProp 𝕄) from by
        rw [← bigSep_sep']
        exact (bigSep_mono fun k _ => (Rounds.body_intro ER (sched m) (cell c k)).trans inv_alloc).trans (bigSep_fupd _ _)) $$ [Hv Hst] with Hinv
  · iframe Hv Hst
  imodintro
  iframe Hinv Hr Hat Htok Hz

/-- A persistent fact serves every member of a family. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- With every invariant allocated, each device is given all of them. -/
theorem regroup :
    (bigSep Finset.univ fun c : Dev nD => iprop((bigSep Finset.univ fun k : Cell => iprop(∃ κ : ℕ, cellInv ER (sched m) κ (cell c k)))
          ∗ (bigSep Finset.univ fun k : Cell => reached ER (cell c k) 0) ∗ each (fun k => atPos ER (cell c k) 0 ∅ 0) ∗ rights c ∗ zeros c) : sProp 𝕄)
      ⊢ bigSep Finset.univ (G' m) := by
  rw [bigSep_sep', bigSep_sep', ← bigSep_univ_prod (fun ck : Dev nD × Cell => iprop(∃ κ : ℕ, cellInv ER (sched m) κ (cellAt ck)))]
  iintro ⟨HI, #HR, HL⟩
  ihave HK := (BI.bigSep_exists_pi Finset.univ (fun (ck : Dev nD × Cell) (κ : ℕ) => (cellInv ER (sched m) κ (cellAt ck) : sProp 𝕄))) $$ HI
  icases HK with ⟨%K, HI⟩
  ihave HI := (Entails.of_eq (bigSep_univ_prod (fun ck : Dev nD × Cell => (cellInv ER (sched m) (K ck) (cellAt ck) : sProp 𝕄)))) $$ HI
  iapply (share_out (R := records m K) (Φ := fun c => iprop(each (fun k => atPos ER (cell c k) 0 ∅ 0) ∗ rights c ∗ zeros c)) fun c _ => by
    unfold G'; iintro ⟨H, HL⟩; iexists K; iframe H HL)
  isplitl [HI]
  · unfold records; simp only [bigSep_sep']; isplitl [HI]; · iexact HI
    iexact HR
  · iexact HL

/-- The whole step, all devices at once. -/
theorem glob : (bigSep Finset.univ fun c => iprop(ownSems c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The credit -/

abbrev O₀ (c : Dev nD) : CellTallies nD τ sig Unit := owing (dues c)

theorem if_cell (c d : Dev nD) (k l : Cell) (n : ℕ) : (if cell c k = cell d l then n else 0) = if c = d ∧ k = l then n else 0 :=
  if_congr cell_eq_iff rfl rfl

/-- What all devices together owe a barrier, -/
theorem owed_bar (c : Dev nD) : ∑ d : Dev nD, O₀ d (cell c .bar) () = 3 := by
  simp only [O₀, owing_apply, dues, sendDues, cell_eq_iff, List.map_cons, List.map_nil, List.sum_cons, List.sum_nil, reduceCtorEq, and_false, and_true, if_false]
  revert c; decide
/-- and a semaphore transfers land on. -/
theorem owed_recv (c : Dev nD) (j : Fin 5) : ∑ d : Dev nD, O₀ d (cell c (.recv j)) () = N j := by
  have key : ∀ d : Dev nD, O₀ d (cell c (.recv j)) () = if d = frm j c then N j else 0 := by
    intro d
    have hd : ∀ i, (c = dst i d) = (d = frm i c) := fun i => propext ⟨fun h => by rw [h, frm_dst], fun h => by rw [h, dst_frm]⟩
    rw [O₀, owing_apply]
    show (if cell c (.recv j) = cell (sigTo 0 d) .bar then 1 else 0) + ((if cell c (.recv j) = cell (sigTo 1 d) .bar then 1 else 0)
      + ((if cell c (.recv j) = cell (sigTo 2 d) .bar then 1 else 0)
      + ((if cell c (.recv j) = cell (dst 0 d) (.recv 0) then N 0 else 0) + ((if cell c (.recv j) = cell (dst 1 d) (.recv 1) then N 1 else 0)
      + ((if cell c (.recv j) = cell (dst 2 d) (.recv 2) then N 2 else 0) + ((if cell c (.recv j) = cell (dst 3 d) (.recv 3) then N 3 else 0)
      + ((if cell c (.recv j) = cell (dst 4 d) (.recv 4) then N 4 else 0) + 0))))))) = _
    rw [if_cell, if_cell, if_cell, if_cell, if_cell, if_cell, if_cell, if_cell]
    simp only [hd]
    fin_cases j <;> simp
  rw [Finset.sum_congr rfl fun d _ => key d, Finset.sum_ite_eq' Finset.univ (frm j c) fun _ => N j, if_pos (Finset.mem_univ _)]

theorem credit_of (c : Dev nD) (k : Cell) (n : ℕ) (h : ∑ d : Dev nD, O₀ d (cell c k) () = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, h]

/-- What a device is credited with at launch covers all it will wait for from others. -/
theorem creds (c : Dev nD) : (Pipeline.launchCred O₀ c : sProp 𝕄) ⊢ credits c := by
  unfold Pipeline.launchCred credits
  rw [← credit_of c .bar 3 (owed_bar c), ← credit_of c (.recv 0) _ (owed_recv c 0), ← credit_of c (.recv 1) _ (owed_recv c 1),
    ← credit_of c (.recv 2) _ (owed_recv c 2), ← credit_of c (.recv 3) _ (owed_recv c 3), ← credit_of c (.recv 4) _ (owed_recv c 4)]
  refine (BI.bigSep_subset (t := [csem .bar, csem (.recv 0), csem (.recv 1), csem (.recv 2), csem (.recv 3), csem (.recv 4)].toFinset)
    (Finset.subset_univ _)).trans ?_
  rw [bigSep_eq_bigSepL_of_eq _ rfl (by decide)]
  exact BI.Entails.refl _

end Cert.Scatter

end
-- ==== Proof.Launch.lean ====
/- THE LAUNCH. From any memory, with every semaphore at zero, the four kernels run to their end: every device's result is
   computed, its arguments are unchanged, and every semaphore is at zero again. -/
module

public import proofs.«01_k».proof.Proof.Deal
public import proofs.«01_k».proof.Proof.Gen.KernelIdeal.Points
public import Idealize.ShloMosaic.Lib.Quiescent
public import Idealize.ShloMosaic.Lib.Pipeline.CollectiveSegs

@[expose] public section

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Before the body: everything it starts from besides the buffers; -/
def start (c : Dev nD) : sProp 𝕄 := iprop(G' m c ∗ credits c ∗ levAts L lv ∗ inputs m c)
/-- with the buffers; -/
def Φ₀ (c : Dev nD) : sProp 𝕄 := iprop(start m c ∗ buffers c)
/-- after it: every semaphore at zero, the arguments and the buffers back. -/
def Φ₁ (c : Dev nD) : sProp 𝕄 := iprop((each (fun k => semVal (cell c k) 0) ∗ zeros c) ∗ inputs m c ∗ buffers c)

def dats (_ : Fin 1) (c : Dev nD) : Dat τ (Elt F) Unit ℕ UU ℕ cfg0 c where
  A w := m ((cfg0.win w).arr.view.loc (c : Thread nD τ))
  after w _ := match w with
    | ⟨0, _⟩ => sxAt m c
    | ⟨1, _⟩ => swAt m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A window's staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
def bodyPost (c : Dev nD) : sProp 𝕄 :=
  iprop(Φ₁ m c ∗ (dats m 0 c).owesAt () t0_0.succ
    ∗ stg c cc0_stg0_0 (sxAt m c) ∗ stg c cc0_stg1_0 (swAt m c) ∗ stg c cc0_stg2_0 (outAt m c))

theorem stg_at (c : Dev nD) {b : Ref sig .tc} {X : b.ty.Contents (Elt F)} : ((c : Thread nD τ).loc b ↦{fullShare} X : sProp 𝕄) ⊢ stg c b X := by
  iintro H; iexists X; isplitr; · ipureintro; rfl
  iexact H

theorem bodyPre_open (c : Dev nD) : bodyPre m c
    ⊢ iprop(Φ₀ m c ∗ debt c (dues c) ∗ scales m c ∗ free c oM) := by
  unfold bodyPre Dat.owesAt Pipeline.owesWithin
  iintro ⟨HP, ⟨%W, %hW, HO⟩, ⟨%d0, %g0, %h0, H0⟩, ⟨%d1, %g1, %h1, H1⟩, ⟨%d2, %g2, %h2, H2⟩⟩
  have e0 : g0 = sxAt m c := by rw [h0]; unfold Dat.before; rw [if_pos (fetch0_0 t0_0)]; rfl
  have e1 : g1 = swAt m c := by rw [h1]; unfold Dat.before; rw [if_pos (fetch0_1 t0_0)]; rfl
  subst e0 e1
  isplitl [HP]; · iexact HP
  isplitl [HO]; · unfold debt; iexists W; iexact HO
  isplitl [H0 H1]
  · unfold scales
    isplitl [H0]; · iexact H0
    iexact H1
  iexists g2
  iapply (Entails.of_eq (owns_whole (c : Thread nD τ) cc0_stg2_0 fullShare g2).symm); iexact H2

theorem bodyPost_close (c : Dev nD) :
    iprop(debt c [] ∗ each (fun k => semVal (cell c k) 0) ∗ zeros c ∗ inputs m c ∗ buffers c ∗ scales m c ∗ has c oM (outAt m c)) ⊢ bodyPost m c := by
  unfold bodyPost Φ₁ Dat.owesAt Pipeline.owesWithin debt scales
  iintro ⟨⟨%W, HO⟩, He, Hz, Hi, Hb, ⟨H0, H1⟩, H2⟩
  isplitl [He Hz Hi Hb]; · iframe He Hz Hi Hb
  isplitl [HO]
  · iexists W
    isplitr; · ipureintro; exact fun _ _ => Or.inl trivial
    iexact HO
  isplitl [H0]; · iapply (stg_at c); iexact H0
  isplitl [H1]; · iapply (stg_at c); iexact H1
  iapply (stg_at c)
  ihave H2 := (Entails.of_eq (owns_whole (c : Thread nD τ) cc0_stg2_0 fullShare (outAt m c))) $$ H2
  iexact H2

set_option maxRecDepth 8000 in
/-- The body does what the pipeline asks of it. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ runs c (bodyAt0 t0_0) (fun _ => bodyPost m c)
  iintro H
  ihave H := (bodyPre_open m c) $$ H
  unfold Φ₀ start G' rights
  icases H with ⟨⟨⟨⟨%K, #HR, Ha, Ht, Hz⟩, Hc, #Hlev, Hi⟩, Hb⟩, HO, Hs, Ho⟩
  iapply (body m K c)
  isplitr; · iexact HR
  isplitr; · iexact Hlev
  iframe HO Ht Ha Hc Hz Hi Hb Hs Ho
  iintro H
  iapply (bodyPost_close m c); iexact H

/-! ## The sides of the launch -/

theorem share_eq (c : Dev nD) (w : Fin cfg0.W) : (dats m 0 c).share w = fullShare := by unfold Dat.share; split <;> rfl

/-- The launch's levels, credit, starting rights and arguments make up what the body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show Pipeline.unscopedRest cfg0.spec c _ = _ from unscopedRest0_eq c _]
  iintro ⟨Hi, Hlev, Hcr, -, HG⟩
  ihave Hc := (creds (F := F) c) $$ Hcr
  imodintro
  unfold start inputs
  isplitl
  · isplitl [HG]; · iexact HG
    isplitl [Hc]; · iexact Hc
    isplitl [Hlev]; · iexact Hlev
    iexact Hi
  · iempintro

/-- A whole buffer at some contents is a free buffer. -/
theorem free_whole (c : Dev nD) (b : Ref sig .tc) : (iprop(∃ f : Buf (Elt F) ((c : Thread nD τ).loc b), (c : Thread nD τ).loc b ↦{fullShare} f) : sProp 𝕄)
    = free c (Memref.whole b) := by
  unfold free; simp only [owns_whole]

theorem scoped_eq (c : Dev nD) : (Pipeline.scopedRest cfg0.spec c : sProp 𝕄) = buffers c := by
  refine (scopedRest0_eq c).trans ?_
  unfold buffers; simp only [free_whole]; rfl

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scoped_eq]
  unfold Φ₀
  iintro ⟨Hs, -, Hb⟩
  iframe Hs Hb

theorem phi1_exit (c : Dev nD) :
    (dats m 0 c).Φ (Fin.last cfg0.N) ⊢ iprop((unscopedSems0 c ∗ inputs m c) ∗ ownSems c ∗ Pipeline.scopedRest cfg0.spec c) := by
  rw [show (dats m 0 c).Φ (Fin.last cfg0.N) = Φ₁ m c from rfl, scoped_eq]
  unfold Φ₁
  iintro ⟨Hs, Hi, Hb⟩
  ihave Hs := (sems_collect (F := F) c) $$ Hs
  icases Hs with ⟨Hu, Ho⟩
  iframe Hu Hi Ho Hb

theorem waits (c : Dev nD) : (levAts L lv : sProp 𝕄) ⊢ Pipeline.cellsWaits cfgs (dats m) () 0 c :=
  Pipeline.cellsWaits_intro cfgs (dats m) () 0 c fun w s t => by
    have h0 : lv ((c : Thread nD τ), SemLoc.dma (((cfgs 0).win w).sem s)) () ≤ 0 := by
      show levelOf (kindOf (SemLoc.dma (((cfgs 0).win w).sem s))) ≤ 0
      revert s; revert w; decide
    rcases t with ⟨_ | _, ht⟩
    · exact mayWait c _ 0 h0 (dues c) (dues_cells c)
    · exact mayWait c _ 0 h0 [] (fun p hp => absurd hp (List.not_mem_nil))

/-! ## The run -/

/-- What one device's memory holds after the run. -/
def Done (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)

theorem read_inputs (c : Dev nD) (s' : Phys nD τ sig (Elt F)) :
    iprop(inputs m c ∗ SI s') ⊢ (iprop(⌜Done m c s'.mem⌝ ∗ SI s') : sProp 𝕄) := by
  unfold inputs
  iintro ⟨⟨Hx, Hw⟩, HSI⟩
  ihave %hx := (SI_pointsTo_agree (ℓ := (c : Thread nD τ).loc main_arg0) (I := Finset.univ) (q := fullShare) (f := xAt m c)) $$ [Hx HSI]
  · isplitl [HSI] <;> iassumption
  ihave %hw := (SI_pointsTo_agree (ℓ := (c : Thread nD τ).loc main_arg1) (I := Finset.univ) (q := fullShare) (f := wAt m c)) $$ [Hw HSI]
  · isplitl [HSI] <;> iassumption
  isplitr
  · ipureintro
    exact ⟨funext fun i => hx i (Finset.mem_univ i), funext fun i => hw i (Finset.mem_univ i)⟩
  iexact HSI

set_option maxRecDepth 8000 in
/-- THE RUN. From any memory with every semaphore at zero, every fair execution of the four kernels ends; then every
    window's array holds what the pipeline wrote, `x` and `w` are unchanged, and every semaphore is at zero. -/
theorem run_windows : θ_run defs (onTc (τ := τ) (main (F := F))) ⟨m, fun _ => 0, ρ⟩ (fun r =>
    (∀ c : Dev nD, (∀ w : Fin cfg0.W, r.2.mem ((cfg0.win w).arr.view.loc (c : Thread nD τ)) = (dats m 0 c).arrAt w cfg0.N) ∧ Done m c r.2)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ inputs m c)) (Z := fun _ => iprop(emp))
    (hX := start_intro m ρ) (hin := phi0_intro m) (hout := phi1_exit m)
    (QY := fun c s => Done m c s ∧ ∀ sm : SemLoc sig, sm.isScoped .tc = false → s.sem ((c.tc : Thread nD τ), sm) = 0)
    (hY := fun c s' => by
      iintro ⟨⟨Hu, Hi⟩, -, HSI⟩
      ihave H := (read_inputs m c s') $$ [Hi HSI]
      · iframe Hi HSI
      icases H with ⟨%hd, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hd, hs⟩
      iexact HSI)
    (hQ := fun _ h hs => ⟨fun c => ⟨(h c).1, (h c).2.2.1⟩, sem_eq_zero hs fun c => (h c).2.2.2⟩)

end Cert.Scatter

end
-- ==== Proof.Run.lean ====
/- THE RUN'S MEMORY. What every array of `@main` holds once the four kernels are done. -/
module

public import proofs.«01_k».proof.Proof.Launch

@[expose] public section

noncomputable section

namespace Cert.Scatter

open Cert.KernelIdeal Cert.KernelIdeal.Gen

open Idealize.ShloMosaic
open Idealize.ShloMosaic.TcCoe
open Idealize.SL Idealize.SL.Sem

variable {F : FTy → Type} [FloatOps F]
variable (m : (ℓ : Loc nD τ sig) → Buf (Elt F) ℓ) (ρ : Dev nD → PrngReg)

/-- Each window's one block is its whole array. -/
theorem read_scale_x (f : (main_arg2 : Ref sig .tc).ty.Contents (Elt F)) : (win0_0.blk (0 : Fin 1)).view.read (Elt F) f = f :=
  Memref.read_access_unit_zero (Elt F) main_arg2 (off := fun a => (win0_0.index (0 : Fin 1)) a * main_arg2.ty.shape.size a)
    (funext fun a => Nat.zero_mul _) _ f
theorem read_scale_w (f : (main_arg3 : Ref sig .tc).ty.Contents (Elt F)) : (win0_1.blk (0 : Fin 1)).view.read (Elt F) f = f :=
  Memref.read_access_unit_zero (Elt F) main_arg3 (off := fun a => (win0_1.index (0 : Fin 1)) a * main_arg3.ty.shape.size a)
    (funext fun a => Nat.zero_mul _) _ f
theorem read_result (f : (main_v1 : Ref sig .tc).ty.Contents (Elt F)) : (win0_2.blk (0 : Fin 1)).view.read (Elt F) f = f :=
  Memref.read_access_unit_zero (Elt F) main_v1 (off := fun a => (win0_2.index (0 : Fin 1)) a * main_v1.ty.shape.size a)
    (funext fun a => Nat.zero_mul _) _ f

/-- The result array holds what the body left in its staging buffer. -/
theorem final_result (c : Dev nD) : (dats m 0 c).arrAt (2 : Fin 3) cfg0.N = outAt m c := by
  refine (read_result _).symm.trans ?_
  rw [show cfg0.N = ((0 : Fin 1) : Fin cfg0.N).val + 1 from rfl, (dats m 0 c).arrAt_succ (2 : Fin 3) (0 : Fin 1)]
  rw [show (cfg0.win (2 : Fin 3)).flush (0 : Fin 1) = true from by decide, if_pos rfl]
  exact View.read_write_univ _ _

/-- What device `c`'s arrays hold after the run: the result its block, the arguments what they held. -/
def Ends (c : Dev nD) (s : MemSt nD τ sig (Elt F)) : Prop :=
  s.mem ((c.tc : Thread nD τ).loc main_v1) = outAt m c
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)

/-- From any memory with every semaphore at zero, every fair execution of the four kernels ends; then every device's
    arrays hold what `Ends` says, and every semaphore is at zero. -/
theorem run_main : θ_run defs (onTc (τ := τ) (main (F := F))) ⟨m, fun _ => 0, ρ⟩ (fun r =>
    (∀ c : Dev nD, Ends m c r.2) ∧ r.2.sem = fun _ => 0) :=
  (θ_run defs _ _).mono (fun r h => ⟨fun c => ⟨((h.1 c).1 (2 : Fin 3)).trans (final_result m c), (h.1 c).2.1, (h.1 c).2.2,
    ((h.1 c).1 (0 : Fin 3)).trans ((dats m 0 c).arrAt_in (0 : Fin 3) rfl _),
    ((h.1 c).1 (1 : Fin 3)).trans ((dats m 0 c).arrAt_in (1 : Fin 3) rfl _)⟩, h.2⟩) (run_windows m ρ)

end Cert.Scatter

end
-- ==== Proof.Sums.lean ====
/- SUMS OVER THE RING. A sum over all 4096 places of the inner axis, taken device by device. -/
module

public import proofs.«01_k».proof.Proof.Cells
public import Mathlib.Algebra.BigOperators.Fin
public import Mathlib.Tactic.Abel

@[expose] public section

namespace Cert.Scatter

open Cert.KernelIdeal Idealize.ShloMosaic
open scoped BigOperators

/-- Row `r` of block `q` of the rows, among all 4096. -/
def row (q : Dev nD) (r : Fin 1024) : Fin 4096 := ⟨1024 * q.val + r.val, by
  have := (show q.val < 4 from q.isLt); have := r.isLt; omega⟩

variable {M : Type*} [AddCommMonoid M]

/-- The 4096 places are the four devices' 1024 each. -/
theorem sum_places (f : Fin 4096 → M) : ∑ K, f K = ∑ d : Dev nD, ∑ k : Fin 1024, f (row d k) := by
  rw [← Fintype.sum_prod_type']
  refine (Fintype.sum_equiv (finProdFinEquiv (m := 4) (n := 1024)) _ f fun p => ?_).symm
  exact congrArg f (Fin.ext (Nat.add_comm _ _))

/-- Where the other three stand, for each of the four. -/
theorem places (c : Dev nD) : ((c = 0 ∧ prv c = 3) ∧ nxt c = 1 ∧ opp c = 2) ∨ ((c = 1 ∧ prv c = 0) ∧ nxt c = 2 ∧ opp c = 3)
    ∨ ((c = 2 ∧ prv c = 1) ∧ nxt c = 3 ∧ opp c = 0) ∨ ((c = 3 ∧ prv c = 2) ∧ nxt c = 0 ∧ opp c = 1) := by revert c; decide

/-- A sum over the four devices, in the order device `c` meets them: itself, the previous, the next, the opposite. -/
theorem sum_round (g : Dev nD → M) (c : Dev nD) : ∑ d, g d = g c + g (prv c) + g (nxt c) + g (opp c) := by
  refine (Fin.sum_univ_four (g : Fin 4 → M)).trans ?_
  rcases places c with ⟨⟨h, hp⟩, hn, ho⟩ | ⟨⟨h, hp⟩, hn, ho⟩ | ⟨⟨h, hp⟩, hn, ho⟩ | ⟨⟨h, hp⟩, hn, ho⟩ <;>
    rw [hp, hn, ho, h] <;> abel

end Cert.Scatter
-- ==== Proof.Blocks.lean ====
/- ONE BLOCK, OVER THE IDEAL VALUES. Each block of `x` a device reads is a run of 1024 rows of its `x`; rounding for the
   wire and widening after it change no ideal value, so each of the values the kernel forms is a block itself, `w` itself, or
   a sum of plain products of blocks with `w`s. -/
module

public import proofs.«01_k».proof.Proof.Sums
public import Idealize.ShloMosaic.PureOps.Ideal.Laws
public import Idealize.ShloMosaic.Lib.MatmulPlain
public import Idealize.ShloMosaic.Lib.ValueIdxCore
public import Idealize.ShloMosaic.Lib.Pipeline.Value

@[expose] public section

noncomputable section

namespace Cert.Scatter

open Cert.KernelIdeal Cert.KernelIdeal.Gen
open Idealize.ShloMosaic Idealize.ShloMosaic.TcCoe Idealize.ShloMosaic.ValueIdx
open scoped BigOperators

variable {F : FTy → Type} [FloatOps F]

/-! ## Blocks of rows -/

/-- Block `q` of the rows of an `x`. -/
def rowBlk (q : Dev nD) (X : S4096x1024.Idx → Elt F .f32) : Vec F S1024x1024 .f32 := fun i => X (ix2 (row q (i 0)) (i 1))

/-- A slice of `x` of 1024 rows starting where block `q` starts reads block `q`. -/
theorem read_rows (q : Dev nD) (off : Fin 2 → Nat) (hoff : off = ![1024 * q.val, 0])
    (hb : ∀ a, off a + S1024x1024.size a ≤ S4096x1024.size a) (X : (main_arg0 : Ref sig .tc).ty.Contents (Elt F)) :
    (xM.slice (Rect.unit (s := S4096x1024) off S1024x1024.size hb) (fun _ => rfl)).view.read (Elt F) X = rowBlk q X := by
  subst hoff
  funext i
  refine congrArg X (funext fun a => Fin.ext ?_)
  match a with
  | ⟨0, _⟩ => exact congrArg (1024 * q.val + ·) (Nat.one_mul _)
  | ⟨1, _⟩ => exact (Nat.zero_add _).trans (Nat.one_mul _)

variable (m : (ℓ : Loc nD τ sig) → Buf (Elt F) ℓ)

/-- The four slices are the blocks of the next device, of the previous, of the opposite and of the device itself. -/
theorem xNxtAt_eq (c : Dev nD) : xNxtAt m c = rowBlk (nxt c) (xAt m c) := read_rows _ _ (k0_off1_eq c 0) _ _
theorem xPrvAt_eq (c : Dev nD) : xPrvAt m c = rowBlk (prv c) (xAt m c) := read_rows _ _ (k0_off2_eq c) _ _
theorem xOppAt_eq (c : Dev nD) : xOppAt m c = rowBlk (opp c) (xAt m c) := read_rows _ _ (k0_off1_eq c 1) _ _
theorem xOwnAt_eq (c : Dev nD) : xOwnAt m c = rowBlk c (xAt m c) := read_rows _ _ (k0_off3_eq c) _ _

/-- A block put into a stack of one and taken out again is the block. -/
theorem dn_up {α : Type} (X : S1024x1024.Idx → α) : shapeCast S1024x1024 (upX X) shapeCasts_S1x1024x1024_S1024x1024 = X :=
  shapeCast_shapeCast _ _ _
theorem dnW_up {α : Type} (X : S1024x2048.Idx → α) : shapeCast S1024x2048 (upW X) shapeCasts_S1x1024x2048_S1024x2048 = X :=
  shapeCast_shapeCast _ _ _

/-! ## Over the ideal values -/

/-- Rounding a block for the wire changes no ideal value, -/
theorem pay1_eq (X : S1024x1024.Idx → EReal) : k0_pay1 (F := Ideal) (upX X) = upX X := congrArg upX (dn_up X)
theorem pay2_eq (X : S1024x1024.Idx → EReal) : k0_pay2 (F := Ideal) (upX X) = upX X := congrArg upX (dn_up X)
/-- nor rounding `w`, -/
theorem pay3_eq (W : S1024x2048.Idx → EReal) : k0_pay3 (F := Ideal) W = W := shapeCast_self W shapeCasts_S1024x2048_S1024x2048
theorem pay4_eq (W : S1024x2048.Idx → EReal) : k0_pay4 (F := Ideal) W = W := rfl

/-- The product of a block with `w`, into zeros. -/
def prod (X : S1024x1024.Idx → EReal) (W : S1024x2048.Idx → EReal) : S1024x2048.Idx → EReal :=
  fun i => ∑ k : Fin 1024, X (ix2 (i 0) k) * W (ix2 k (i 1))

/-- Whatever formats the two factors are held in, the kernel's product is this one. -/
theorem product_eq {φ₁ φ₂ : FTy} (A : FVec Ideal S1024x1024 φ₁) (B : FVec Ideal S1024x2048 φ₂) :
    matmul dot_S1024x1024_S1024x2048_S1024x2048_1_0_0_1_n_n none A B (constant (F := Ideal) S1024x2048 .f32 0x00000000#32)
      = prod A B := by
  funext i
  rw [eq_ix2 i]
  refine (Ideal.matmul_plain_apply none A B _ (i 0) (i 1)).trans ?_
  show Ideal.ofBits .f32 0x00000000#32 + _ = _
  rw [Ideal.ofBits_zero_f32, zero_add]
  rfl

/-- The partial product that is sent across, -/
theorem pay5_eq (W : S1024x2048.Idx → EReal) (X : S1024x1024.Idx → EReal) : k0_pay5 (F := Ideal) W (upX X) = prod X W :=
  (shapeCast_self _ shapeCasts_S1024x2048_S1024x2048).trans ((product_eq _ _).trans (congrArg (prod · W) (dn_up X)))

/-- the device's own product together with the one of the blocks that came up the ring, -/
theorem pay6_eq (W : S1024x2048.Idx → EReal) (X X' : S1024x1024.Idx → EReal) (W' : S1024x2048.Idx → EReal) :
    k0_pay6 (F := Ideal) W (upX X) (upX X') (upW W') = fun i => prod X W i + prod X' W' i :=
  funext fun i => congrArg₂ (· + ·)
    (congrFun ((product_eq (φ₁ := .bf16) (φ₂ := .bf16) _ _).trans (congrArg (prod · W) (dn_up X))) i)
    (congrFun ((product_eq (φ₁ := .bf16) (φ₂ := .bf16) _ _).trans (congrArg₂ prod (dn_up X') (dnW_up W'))) i)

/-- and with the one of the blocks that came down it. -/
theorem pay7_eq (A : S1024x2048.Idx → EReal) (X : S1024x1024.Idx → EReal) (W : S1024x2048.Idx → EReal) :
    k0_pay7 (F := Ideal) A (upX X) (upW W) = fun i => A i + prod X W i :=
  funext fun i => congrArg (A i + ·)
    (congrFun ((product_eq (φ₁ := .bf16) (φ₂ := .bf16) _ _).trans (congrArg₂ prod (dn_up X) (dnW_up W))) i)

/-- The last step adds what came across, scales, and clips below at zero. -/
theorem pay8_apply (A P : S1024x2048.Idx → EReal) (s t : EReal) (i : S1024x2048.Idx) :
    k0_pay8 (F := Ideal) A P s t i = max ((A i + P i) * (s * t)) 0 := by
  show max ((A i + P i) * (s * t)) (Ideal.ofBits .f32 0x00000000#32) = _
  rw [Ideal.ofBits_zero_f32]

end Cert.Scatter

end
-- ==== Proof.Value.lean ====
/- WHAT DEVICE `c` ENDS WITH, OVER THE IDEAL VALUES: each entry of its block of the result is the sum over the four
   devices of what each contributes, scaled by the two scales and clipped below at zero. -/
module

public import proofs.«01_k».proof.Proof.Blocks
public import proofs.«01_k».proof.Proof.Run

@[expose] public section

noncomputable section

namespace Cert.Scatter

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ)

/-- Device `d`'s `x` and `w` and the two scales, as arrays of extended reals. -/
def xs (d : Dev nD) : S4096x1024.Idx → EReal := xAt m d
def ws (d : Dev nD) : S1024x2048.Idx → EReal := wAt m d
def scaleX (d : Dev nD) : S1.Idx → EReal := m ((d : Thread nD τ).loc main_arg2)
def scaleW (d : Dev nD) : S1.Idx → EReal := m ((d : Thread nD τ).loc main_arg3)

/-- What device `d` contributes to block `q` of the result: the product of its rows of that block with its `w`. -/
def part (d q : Dev nD) : S1024x2048.Idx → EReal := prod (rowBlk (F := Ideal) q (xs m d)) (ws m d)

/-- Up the ring a device sends the next device's rows, down the ring the previous device's, -/
theorem sentX0_eq (d : Dev nD) : sentX0 m d = rowBlk (F := Ideal) (nxt d) (xs m d) :=
  ((congrArg (fun X : S1x1024x1024.Idx → EReal => dnX X) (pay1_eq _)).trans (dn_up (α := EReal) _)).trans (xNxtAt_eq m d)
theorem sentX1_eq (d : Dev nD) : sentX1 m d = rowBlk (F := Ideal) (prv d) (xs m d) :=
  ((congrArg (fun X : S1x1024x1024.Idx → EReal => dnX X) (pay2_eq _)).trans (dn_up (α := EReal) _)).trans (xPrvAt_eq m d)
/-- with each its `w`, -/
theorem sentW_eq (d : Dev nD) : sentW m d = ws m d := pay3_eq _
/-- and across its contribution to the opposite device's block. -/
theorem sentP_eq (d : Dev nD) : sentP m d = part m d (opp d) :=
  (pay5_eq _ _).trans (congrArg (prod · (ws m d)) (xOppAt_eq m d))

/-- An array of one element has one place. -/
theorem one_place (i : S1.Idx) : i = ix1 0 := by
  rw [eq_ix1 i]
  exact congrArg ix1 (Subsingleton.elim (α := Fin 1) _ _)

/-- The scales the kernel reads are the two arguments' only elements. -/
theorem sxEl_eq (c : Dev nD) : sxEl m c = scaleX m c (ix1 0) := by
  have h : sxAt m c = m ((c : Thread nD τ).loc main_arg2) := read_scale_x _
  unfold sxEl
  rw [h]
  exact congrArg (scaleX m c) (one_place _)
theorem swEl_eq (c : Dev nD) : swEl m c = scaleW m c (ix1 0) := by
  have h : swAt m c = m ((c : Thread nD τ).loc main_arg3) := read_scale_w _
  unfold swEl
  rw [h]
  exact congrArg (scaleW m c) (one_place _)

/-- The accumulator holds the device's own contribution and the previous device's, then the next device's too. -/
theorem acc1_parts (c : Dev nD) : acc1 m c = fun i => part m c c i + part m (prv c) c i := by
  have hx : sentX0 m (prv c) = rowBlk (F := Ideal) c (xs m (prv c)) := by rw [sentX0_eq, nxt_prv]
  unfold acc1
  rw [hx, sentW_eq, xOwnAt_eq]
  exact pay6_eq (ws m c) _ _ _
theorem acc2_parts (c : Dev nD) : acc2 m c = fun i => part m c c i + part m (prv c) c i + part m (nxt c) c i := by
  have hx : sentX1 m (nxt c) = rowBlk (F := Ideal) c (xs m (nxt c)) := by rw [sentX1_eq, prv_nxt]
  unfold acc2
  rw [hx, sentW_eq, acc1_parts]
  exact pay7_eq _ _ _

/-- Device `c`'s block of the result. -/
theorem outAt_apply (c : Dev nD) (i : S1024x2048.Idx) :
    outAt m c i = max ((∑ d, part m d c i) * (scaleX m c (ix1 0) * scaleW m c (ix1 0))) 0 := by
  have hp : sentP m (opp c) = part m (opp c) c := by rw [sentP_eq, opp_opp]
  unfold outAt
  rw [hp, acc2_parts, sxEl_eq, swEl_eq, sum_round _ c]
  exact pay8_apply _ _ _ _ i

end Cert.Scatter

end
-- ==== Proof.Equation.lean ====
/- THE EQUATION. What the reference computes, read at an entry, is the sum over the whole inner axis; taken device by
   device it is what device `c` ends with, when each device holds its part of the whole arrays. -/
module

public import proofs.«01_k».proof.Proof.Value
public import proofs.«01_k».proof.Proof.Gen.ReferenceIdeal
public import Idealize.ShloMosaic.Lib.Layout
public import Idealize.ShloMosaic.Lib.StackMember

@[expose] public section

noncomputable section

namespace Cert.Scatter

open Idealize.ShloMosaic Idealize.ShloMosaic.TcCoe Idealize.ShloMosaic.ValueIdx
open scoped BigOperators

/-- What the reference computes of whole arrays `X` and `W` and the two scales. -/
def whole (X : FVec Ideal ReferenceIdeal.S4096x4096 .f32) (W : FVec Ideal ReferenceIdeal.S4096x2048 .f32)
    (s t : FVec Ideal ReferenceIdeal.S1 .f32) : FVec Ideal ReferenceIdeal.S4096x2048 .f32 :=
  open ReferenceIdeal ReferenceIdeal.Facts₀ in
  maximumf (mulf (Host.dotGeneral dot_S4096x4096_S4096x2048_S4096x2048_1_0_0_1_n_n none X W)
      (broadcastInDim S4096x2048 ![0, 1] bcast_S1x1_S4096x2048_0_1 (broadcastInDim S1x1 ![1] bcast_S1_S1x1_1 (mulf s t))))
    (broadcastInDim S4096x2048 ![] bcast_S_S4096x2048 (constant S_ .f32 0x00000000#32))

/-- Its entry at row `R` and column `j`. -/
theorem whole_apply (X : FVec Ideal ReferenceIdeal.S4096x4096 .f32) (W : FVec Ideal ReferenceIdeal.S4096x2048 .f32)
    (s t : FVec Ideal ReferenceIdeal.S1 .f32) (R : Fin 4096) (j : Fin 2048) :
    whole X W s t (ix2 R j) = (max ((∑ K : Fin 4096, X (ix2 R K) * W (ix2 K j)) * (s (ix1 0) * t (ix1 0))) 0 : EReal) := by
  have hd : Host.dotGeneral ReferenceIdeal.dot_S4096x4096_S4096x2048_S4096x2048_1_0_0_1_n_n none X W (ix2 R j)
      = (∑ K : Fin 4096, X (ix2 R K) * W (ix2 K j) : EReal) := StackMember.dotGeneral_plain_apply none X W R j
  have hs : broadcastInDim ReferenceIdeal.S4096x2048 ![0, 1] ReferenceIdeal.Facts₀.bcast_S1x1_S4096x2048_0_1
      (broadcastInDim ReferenceIdeal.S1x1 ![1] ReferenceIdeal.Facts₀.bcast_S1_S1x1_1 (mulf s t)) (ix2 R j) = (s (ix1 0) * t (ix1 0) : EReal) :=
    congrArg (mulf s t) (one_place _)
  have hz : broadcastInDim ReferenceIdeal.S4096x2048 ![] ReferenceIdeal.Facts₀.bcast_S_S4096x2048
      (constant (F := Ideal) ReferenceIdeal.S_ .f32 0x00000000#32) (ix2 R j) = (0 : EReal) := Ideal.ofBits_zero_f32
  exact congrArg₂ max (congrArg₂ (· * ·) hd hs) hz

open Cert.KernelIdeal Cert.KernelIdeal.Gen

variable (m : (ℓ : Loc nD τ sig) → Buf (Elt Ideal) ℓ)

/-- Where an entry of device `d`'s part lies in the whole: of the rows, in block `d` of the rows; -/
theorem rows_place (d : Dev nD) (i : S1024x2048.Idx) (h : Layout.Tiles ⟨2, ![1024, 2048]⟩ ⟨2, ![4096, 2048]⟩ 0 4 := by decide) :
    h.idx d i = ix2 (row d (i 0)) (i 1) :=
  funext fun a => Fin.ext (match a with
    | ⟨0, _⟩ => congrArg (· + (i 0).val) (Nat.mul_comm _ _)
    | ⟨1, _⟩ => rfl)
/-- of the columns, in block `d` of the columns. -/
theorem cols_place (d : Dev nD) (R : Fin 4096) (k : Fin 1024) (h : Layout.Tiles ⟨2, ![4096, 1024]⟩ ⟨2, ![4096, 4096]⟩ 1 4 := by decide) :
    h.idx d (ix2 R k) = ix2 R (row d k) :=
  funext fun a => Fin.ext (match a with
    | ⟨0, _⟩ => rfl
    | ⟨1, _⟩ => congrArg (· + k.val) (Nat.mul_comm _ _))

/-- When every device holds its columns of `X`, its rows of `W` and the two scales, each ends with its block of the
    reference's result. -/
theorem outAt_eq (X : ReferenceIdeal.S4096x4096.Idx → EReal) (W : ReferenceIdeal.S4096x2048.Idx → EReal) (s t : S1.Idx → EReal)
    (hx : ∀ d, xs m d = Layout.block ⟨2, ![4096, 1024]⟩ ⟨2, ![4096, 4096]⟩ 1 4 d X)
    (hw : ∀ d, ws m d = Layout.block ⟨2, ![1024, 2048]⟩ ⟨2, ![4096, 2048]⟩ 0 4 d W)
    (hs : ∀ d, scaleX m d = s) (ht : ∀ d, scaleW m d = t) (c : Dev nD) :
    outAt m c = Layout.block ⟨2, ![1024, 2048]⟩ ⟨2, ![4096, 2048]⟩ 0 4 c (whole X W s t) := by
  funext i
  have hp (d : Dev nD) : part m d c i = ∑ k : Fin 1024, X (ix2 (row c (i 0)) (row d k)) * W (ix2 (row d k) (i 1)) := by
    unfold part
    rw [hx d, hw d]
    exact Finset.sum_congr rfl fun k _ => congrArg₂ (· * ·) (congrArg X (cols_place d _ k)) (congrArg W (rows_place d (ix2 k (i 1))))
  rw [outAt_apply, hs c, ht c, Finset.sum_congr rfl fun d _ => hp d, ← sum_places fun K => X (ix2 (row c (i 0)) K) * W (ix2 K (i 1))]
  exact (whole_apply X W s t (row c (i 0)) (i 1)).symm.trans (congrArg (whole X W s t) (rows_place c i).symm)

end Cert.Scatter

end
-- ==== Proof.lean ====
/- THE CERTIFICATE. The claims about the kernel, put together from the run of the four devices, the run of the
   reference and the equation between what the two compute. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Adequacy
public import Idealize.ShloMosaic.Init

@[expose] public section

set_option maxRecDepth 4000

noncomputable section

namespace Cert.Proof

open Idealize.ShloMosaic Idealize.SL.Sem

/-- The kernel and its idealization have the same launches, -/
theorem defs₀_eq : Cert.Kernel.defs₀ (F := Bits) = Cert.KernelIdeal.defs₀ := by
  unfold Cert.Kernel.defs₀ Cert.KernelIdeal.defs₀
  refine congrArg Defs.onTc (funext fun ℓ => funext fun i => ?_)
  match ℓ, i with
  | 0, (t, s) => rfl
  | ⟨_ + 1, h⟩, _ => exact absurd h (Nat.not_lt.2 (Nat.le_add_left _ _))

/-- and so the same bodies. -/
theorem defs_eq : Cert.Kernel.defs (F := Bits) = Cert.KernelIdeal.defs :=
  congrArg (Pipeline.defs Cert.KernelIdeal.pcfgs) defs₀_eq

/-- The kernel on the hardware's words runs to its end, leaves its arguments and ends with every counter at zero; -/
theorem frame_kernel : Cert.quiescent_Kernel := fun m ρ _ => by
  rw [defs_eq]
  exact (θ_run Cert.KernelIdeal.defs _ _).mono (fun _ h => ⟨fun c => (h.1 c).2, h.2⟩) (Cert.Scatter.run_main (F := Bits) m ρ)

/-- the same over the ideal values; -/
theorem frame_ideal : Cert.quiescent_KernelIdeal := fun m ρ _ =>
  (θ_run Cert.KernelIdeal.defs _ _).mono (fun _ h => ⟨fun c => (h.1 c).2, h.2⟩) (Cert.Scatter.run_main (F := Ideal) m ρ)

/-- and the same of the reference, which has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the ideal values the four devices end with the four blocks of the reference's result. -/
theorem algebraic : Cert.algebraic_KernelIdeal_ReferenceIdeal := fun m g m' g' _ hagree =>
  ⟨Cert.Scatter.whole _ _ _ _,
    (θ_run Cert.KernelIdeal.defs _ _).mono
      (fun _ h c => ⟨(h.1 c).1.trans (Cert.Scatter.outAt_eq m _ _ _ _ (fun d => (hagree d).1) (fun d => (hagree d).2.1)
        (fun d => (hagree d).2.2.1) (fun d => (hagree d).2.2.2) c), (h.1 c).2⟩)
      (Cert.Scatter.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
